-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_in_range_KernelIdeal [hPre_experts_in_range_KernelIdeal : Cert.Pre_experts_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range_ReferenceIdeal [hPre_experts_in_range_ReferenceIdeal : Cert.Pre_experts_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_experts_in_range_KernelIdeal [hKernelIdeal : Cert.KernelIdeal.Facts] [hPre_experts_in_range_KernelIdeal : Cert.Pre_experts_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_experts_in_range_ReferenceIdeal [hReferenceIdeal : Cert.ReferenceIdeal.Facts] [hPre_experts_in_range_ReferenceIdeal : Cert.Pre_experts_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_experts_in_range_KernelIdeal [hKernelIdeal : Cert.KernelIdeal.Facts] [hReferenceIdeal : Cert.ReferenceIdeal.Facts] [hPre_experts_in_range_KernelIdeal : Cert.Pre_experts_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 256]⟩ ⟨2, ![256, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_experts_in_range_KernelIdeal : Cert.Pre_experts_in_range_KernelIdeal.Facts) (hPre_experts_in_range_ReferenceIdeal : Cert.Pre_experts_in_range_ReferenceIdeal.Facts),
    quiescent_Kernel (hKernel := hKernel)
    ∧ quiescent_KernelIdeal (hKernelIdeal := hKernelIdeal)
    ∧ quiescent_KernelIdeal_pre_experts_in_range_KernelIdeal (hKernelIdeal := hKernelIdeal) (hPre_experts_in_range_KernelIdeal := hPre_experts_in_range_KernelIdeal)
    ∧ quiescent_ReferenceIdeal (hReferenceIdeal := hReferenceIdeal)
    ∧ quiescent_ReferenceIdeal_pre_experts_in_range_ReferenceIdeal (hReferenceIdeal := hReferenceIdeal) (hPre_experts_in_range_ReferenceIdeal := hPre_experts_in_range_ReferenceIdeal)
    ∧ preserves_Kernel_KernelIdeal
    ∧ algebraic_KernelIdeal_ReferenceIdeal_pre_experts_in_range_KernelIdeal (hKernelIdeal := hKernelIdeal) (hReferenceIdeal := hReferenceIdeal) (hPre_experts_in_range_KernelIdeal := hPre_experts_in_range_KernelIdeal)
-- ==== Pre_experts_in_range_KernelIdeal.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S128x256 : Shape := ⟨2, ![128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .f32) (main_arg1 : FVec F S128x8 .f32) (main_arg2 : IVec S256x1 32) (main_arg3 : FVec F S2x128x256 .f32) (main_arg4 : FVec F S128x256 .f32) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 8#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Pre_experts_in_range_ReferenceIdeal.lean ====
abbrev S256x128 : Shape := ⟨2, ![256, 128]⟩
abbrev S128x8 : Shape := ⟨2, ![128, 8]⟩
abbrev S256x1 : Shape := ⟨2, ![256, 1]⟩
abbrev S8x128x256 : Shape := ⟨3, ![8, 128, 256]⟩
abbrev S128x256 : Shape := ⟨2, ![128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .f32) (main_arg1 : FVec F S128x8 .f32) (main_arg2 : IVec S256x1 32) (main_arg3 : FVec F S8x128x256 .f32) (main_arg4 : FVec F S128x256 .f32) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 8#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Kernel.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S128x256 : Shape := ⟨2, ![128, 256]⟩
abbrev S64x256 : Shape := ⟨2, ![64, 256]⟩
abbrev S256x256 : Shape := ⟨2, ![256, 256]⟩
abbrev S3x64x256 : Shape := ⟨3, ![3, 64, 256]⟩
abbrev S3 : Shape := ⟨1, ![3]⟩
abbrev S_ : Shape := ⟨0, ![]⟩
abbrev S256x8 : Shape := ⟨2, ![256, 8]⟩
abbrev S256 : Shape := ⟨1, ![256]⟩
abbrev S1x128x256 : Shape := ⟨3, ![1, 128, 256]⟩
abbrev S1 : Shape := ⟨1, ![1]⟩
abbrev S1x64x256 : Shape := ⟨3, ![1, 64, 256]⟩
abbrev S64x128 : Shape := ⟨2, ![64, 128]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x1, .i32⟩
  | .hbm, ⟨3, _⟩ => ⟨S2x128x256, .f32⟩
  | .hbm, ⟨4, _⟩ => ⟨S128x256, .f32⟩
  | .hbm, ⟨5, _⟩ => ⟨S64x256, .f32⟩
  | .local _ .vmem, ⟨0, _⟩ => ⟨S256x128, .f32⟩
  | .local _ .vmem, ⟨1, _⟩ => ⟨S128x8, .f32⟩
  | .local _ .vmem, ⟨2, _⟩ => ⟨S256x1, .i32⟩
  | .local _ .vmem, ⟨3, _⟩ => ⟨S2x128x256, .f32⟩
  | .local _ .vmem, ⟨4, _⟩ => ⟨S128x256, .f32⟩
  | .local _ .vmem, ⟨5, _⟩ => ⟨S64x256, .f32⟩
  | .local _ .vmem, ⟨6, _⟩ => ⟨S256x256, .bf16⟩
  | .local _ .vmem, ⟨7, _⟩ => ⟨S3x64x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v95 : BitVec 32 := Scalar.addi v2 c2_i32_53
  let c4_i32_54 : BitVec 32 := 4#32
  let c0_i32_55 : BitVec 32 := 0#32
  let v96 : BitVec 1 := Scalar.cmpi .eq c4_i32_54 c0_i32_55
  let c1_i32_56 : BitVec 32 := 1#32
  let v97 : BitVec 32 := Scalar.select v96 c1_i32_56 c4_i32_54
  let v98 : BitVec 32 := Scalar.remsi v95 v97
  let c0_i32_58 : BitVec 32 := 0#32
  let v100 : BitVec 1 := Scalar.cmpi .slt v98 c0_i32_58
  let c0_i32_59 : BitVec 32 := 0#32
  let v101 : BitVec 1 := Scalar.cmpi .slt v97 c0_i32_59
  let v102 : BitVec 1 := Scalar.xori v100 v101
  let c0_i32_57 : BitVec 32 := 0#32
  let v99 : BitVec 1 := Scalar.cmpi .ne v98 c0_i32_57
  let v103 : BitVec 1 := Scalar.andi v102 v99
  let v104 : BitVec 32 := Scalar.addi v98 v97
  let v105 : BitVec 32 := Scalar.select v103 v104 v98
  let c64_i32 : BitVec 32 := 64#32
  let v106 : BitVec 32 := Scalar.muli v105 c64_i32
  let c0_i32_67 : BitVec 32 := 0#32
  ![v106.toNat, 0]
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_53 : BitVec 32 := 2#32
  let v95 : BitVec 32 := Scalar.addi v2 c2_i32_53
  let c4_i32_54 : BitVec 32 := 4#32
  let c0_i32_55 : BitVec 32 := 0#32
  let v96 : BitVec 1 := Scalar.cmpi .eq c4_i32_54 c0_i32_55
  let c1_i32_56 : BitVec 32 := 1#32
  let v97 : BitVec 32 := Scalar.select v96 c1_i32_56 c4_i32_54
  let v98 : BitVec 32 := Scalar.remsi v95 v97
  let c0_i32_58 : BitVec 32 := 0#32
  let v100 : BitVec 1 := Scalar.cmpi .slt v98 c0_i32_58
  let c0_i32_59 : BitVec 32 := 0#32
  let v101 : BitVec 1 := Scalar.cmpi .slt v97 c0_i32_59
  let v102 : BitVec 1 := Scalar.xori v100 v101
  let c0_i32_57 : BitVec 32 := 0#32
  let v99 : BitVec 1 := Scalar.cmpi .ne v98 c0_i32_57
  let v103 : BitVec 1 := Scalar.andi v102 v99
  let v104 : BitVec 32 := Scalar.addi v98 v97
  let v105 : BitVec 32 := Scalar.select v103 v104 v98
  let c1_i32_63 : BitVec 32 := 1#32
  let v107 : BitVec 32 := Scalar.muli v105 c1_i32_63
  let v108 : BitVec 32 := Scalar.addi c0_i32_64 v107
  v108.toNat
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_68 : BitVec 32 := 1#32
  let v116 : BitVec 32 := Scalar.addi v2 c1_i32_68
  let c4_i32_69 : BitVec 32 := 4#32
  let c0_i32_70 : BitVec 32 := 0#32
  let v117 : BitVec 1 := Scalar.cmpi .eq c4_i32_69 c0_i32_70
  let c1_i32_71 : BitVec 32 := 1#32
  let v118 : BitVec 32 := Scalar.select v117 c1_i32_71 c4_i32_69
  let v119 : BitVec 32 := Scalar.remsi v116 v118
  let c0_i32_73 : BitVec 32 := 0#32
  let v121 : BitVec 1 := Scalar.cmpi .slt v119 c0_i32_73
  let c0_i32_74 : BitVec 32 := 0#32
  let v122 : BitVec 1 := Scalar.cmpi .slt v118 c0_i32_74
  let v123 : BitVec 1 := Scalar.xori v121 v122
  let c0_i32_72 : BitVec 32 := 0#32
  let v120 : BitVec 1 := Scalar.cmpi .ne v119 c0_i32_72
  let v124 : BitVec 1 := Scalar.andi v123 v120
  let v125 : BitVec 32 := Scalar.addi v119 v118
  let v126 : BitVec 32 := Scalar.select v124 v125 v119
  let c1_i32_79 : BitVec 32 := 1#32
  let v128 : BitVec 32 := Scalar.muli v126 c1_i32_79
  let v129 : BitVec 32 := Scalar.addi c0_i32_80 v128
  v129.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v137 : BitVec 32 := Scalar.addi v2 c3_i32_84
  let c4_i32_85 : BitVec 32 := 4#32
  let c0_i32_86 : BitVec 32 := 0#32
  let v138 : BitVec 1 := Scalar.cmpi .eq c4_i32_85 c0_i32_86
  let c1_i32_87 : BitVec 32 := 1#32
  let v139 : BitVec 32 := Scalar.select v138 c1_i32_87 c4_i32_85
  let v140 : BitVec 32 := Scalar.remsi v137 v139
  let c0_i32_89 : BitVec 32 := 0#32
  let v142 : BitVec 1 := Scalar.cmpi .slt v140 c0_i32_89
  let c0_i32_90 : BitVec 32 := 0#32
  let v143 : BitVec 1 := Scalar.cmpi .slt v139 c0_i32_90
  let v144 : BitVec 1 := Scalar.xori v142 v143
  let c0_i32_88 : BitVec 32 := 0#32
  let v141 : BitVec 1 := Scalar.cmpi .ne v140 c0_i32_88
  let v145 : BitVec 1 := Scalar.andi v144 v141
  let v146 : BitVec 32 := Scalar.addi v140 v139
  let v147 : BitVec 32 := Scalar.select v145 v146 v140
  let c1_i32_95 : BitVec 32 := 1#32
  let v149 : BitVec 32 := Scalar.muli v147 c1_i32_95
  let v150 : BitVec 32 := Scalar.addi c0_i32_96 v149
  v150.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_100 : BitVec 32 := 64#32
  let v158 : BitVec 32 := Scalar.muli v2 c64_i32_100
  let v159 : Index := Scalar.indexCast v158
  let c0_101 : Index := 0#32
  ![v159.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_105 : BitVec 32 := 64#32
  let v165 : BitVec 32 := Scalar.muli v2 c64_i32_105
  let v166 : Index := Scalar.indexCast v165
  let c0_106 : Index := 0#32
  ![v166.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x8 : Shape := ⟨2, ![128, 8]⟩
abbrev S256x1 : Shape := ⟨2, ![256, 1]⟩
abbrev S8x128x256 : Shape := ⟨3, ![8, 128, 256]⟩
abbrev S128x256 : Shape := ⟨2, ![128, 256]⟩
abbrev S256x8 : Shape := ⟨2, ![256, 8]⟩
abbrev S_ : Shape := ⟨0, ![]⟩
abbrev S256 : Shape := ⟨1, ![256]⟩
abbrev S256x256 : Shape := ⟨2, ![256, 256]⟩
abbrev S256x128x256 : Shape := ⟨3, ![256, 128, 256]⟩
abbrev S256x2 : Shape := ⟨2, ![256, 2]⟩

abbrev nBuf : Space → Nat
  | .hbm => 52
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x8, .f32⟩
  | .hbm, ⟨2, _⟩ => ⟨S256x1, .i32⟩
  | .hbm, ⟨3, _⟩ => ⟨S8x128x256, .f32⟩
  | .hbm, ⟨4, _⟩ => ⟨S128x256, .f32⟩
  | .hbm, ⟨5, _⟩ => ⟨S256x8, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x8, .f32⟩
  | .hbm, ⟨10, _⟩ => ⟨S256x8, .f32⟩
  | .hbm, ⟨11, _⟩ => ⟨S256x8, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x8, .f32⟩
  | .hbm, ⟨16, _⟩ => ⟨S256x8, .f32⟩
  | .hbm, ⟨17, _⟩ => ⟨S256x256, .f32⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S256x128x256, .f32⟩
  | .hbm, ⟨29, _⟩ => ⟨S256x256, .f32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S_, .i32⟩
  | .hbm, ⟨38, _⟩ => ⟨S256, .i32⟩
  | .hbm, ⟨39, _⟩ => ⟨S256, .i1⟩
  | .hbm, ⟨40, _⟩ => ⟨S_, .i32⟩
  | .hbm, ⟨41, _⟩ => ⟨S256, .i32⟩
  | .hbm, ⟨42, _⟩ => ⟨S256, .i32⟩
  | .hbm, ⟨43, _⟩ => ⟨S256, .i32⟩
  | .hbm, ⟨44, _⟩ => ⟨S256x1, .i32⟩
  | .hbm, ⟨45, _⟩ => ⟨S256x1, .i32⟩
  | .hbm, ⟨46, _⟩ => ⟨S256x2, .i32⟩
  | .hbm, ⟨47, _⟩ => ⟨S256, .f32⟩
  | .hbm, ⟨48, _⟩ => ⟨S256x1, .f32⟩
  | .hbm, ⟨49, _⟩ => ⟨S256x256, .f32⟩
  | .hbm, ⟨50, _⟩ => ⟨S256x256, .f32⟩
  | .hbm, ⟨51, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.KernelIdeal.Protocol.lean ====
/- The exchange between the four devices: who signals whom, who copies to whom, and what each semaphore hands over.

Device `c` announces itself on the barrier semaphore of its three peers, computes the rows its two experts contribute
to all tokens into a scratch buffer, waits for its three announcements, and then copies to every peer the rows that
peer owns. Copy number `s` goes to the device `s + 1` places further round the ring, into that device's landing slot
`s`, so each landing slot has exactly one writer. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's own copy, and the exchange's, whose duties are named by the copy's number -/

/-- The exchange's own ledger of rounds, with three names for duties, -/
abbrev UB : Type := URounds (GSem nD τ sig) (Fin 3)
/-- beside the pipeline's. -/
abbrev UU : Type := UR sig nD τ × UB

local notation "𝕄" => MT nD τ sig Unit (Elt F) ℕ UU ℕ

/-- Where the pipeline's ledger lies in the pair, -/
abbrev EP : Emb (UR sig nD τ) (MT nD τ sig Unit (Elt F) ℕ UU ℕ) := embL
/-- and where the exchange's does. -/
abbrev ER : Emb UB (MT nD τ sig Unit (Elt F) ℕ UU ℕ) := embR

variable (m : (ℓ : Loc nD τ sig) → Buf (Elt F) ℓ) (ρ : Dev nD → PrngReg)

/-- The state at launch: any contents, all counters at zero. -/
def s₀ : MemSt nD τ sig (Elt F) := ⟨m, fun _ => 0, ρ⟩

/-! ## Peers -/

set_option backward.proofsInPublic true in
/-- The device that copy `s` of device `c` goes to: `s + 1` places further. -/
def peer (s : Fin 3) (c : Dev nD) : Dev nD := ⟨(c.val + s.val + 1) % 4, Nat.mod_lt _ (by decide)⟩

/-- Going `s + 1` places on and `3 - s` more is once round. -/
theorem peer_rev_peer (s : Fin 3) (c : Dev nD) : peer s.rev (peer s c) = c := by revert s c; decide
/-- The same round in the other order. -/
theorem peer_peer_rev (s : Fin 3) (c : Dev nD) : peer s (peer s.rev c) = c := by revert s c; decide

/-- Copy `s`'s targets, as a permutation of the devices. -/
def turn (s : Fin 3) : Dev nD ≃ Dev nD := ⟨peer s, peer s.rev, peer_rev_peer s, peer_peer_rev s⟩

/-- The first announcement goes one place on, -/
theorem dev1_eq (c : Dev nD) : (⟨k0_dev1 c, k0_dev1_lt c⟩ : Dev nD) = peer 0 c := by revert c; decide +kernel
/-- the second two places, -/
theorem dev2_eq (c : Dev nD) : (⟨k0_dev2 c, k0_dev2_lt c⟩ : Dev nD) = peer 1 c := by revert c; decide +kernel
/-- the third three; -/
theorem dev3_eq (c : Dev nD) : (⟨k0_dev3 c, k0_dev3_lt c⟩ : Dev nD) = peer 2 c := by revert c; decide +kernel
/-- the first copy goes two places on, -/
theorem dev4_eq (c : Dev nD) : (⟨k0_dev4 c, k0_dev4_lt c⟩ : Dev nD) = peer 1 c := by revert c; decide +kernel
/-- the second one place, -/
theorem dev5_eq (c : Dev nD) : (⟨k0_dev5 c, k0_dev5_lt c⟩ : Dev nD) = peer 0 c := by revert c; decide +kernel
/-- the third three. -/
theorem dev6_eq (c : Dev nD) : (⟨k0_dev6 c, k0_dev6_lt c⟩ : Dev nD) = peer 2 c := by revert c; decide +kernel

/-! ## Buffers and semaphores -/

/-- The tokens as the body sees them, -/
abbrev xM : Memref sig .tc .vmem S256x128 .f32 := Memref.whole cc0_stg0_0
/-- the router's weights, -/
abbrev rwM : Memref sig .tc .vmem S128x8 .f32 := Memref.whole cc0_stg1_0
/-- the choices, -/
abbrev idM : Memref sig .tc .vmem S256x1 .i32 := Memref.whole cc0_stg2_0
/-- this device's two experts, -/
abbrev ewM : Memref sig .tc .vmem S2x128x256 .f32 := Memref.whole cc0_stg3_0
/-- the shared expert, -/
abbrev swM : Memref sig .tc .vmem S128x256 .f32 := Memref.whole cc0_stg4_0
/-- and the result. -/
abbrev oM : Memref sig .tc .vmem S64x256 .f32 := Memref.whole cc0_stg5_0
/-- What this device's experts contribute to every token. -/
abbrev pM : Memref sig .tc .vmem S256x256 .bf16 := Memref.whole cc0_scratch0
/-- The three landing slots. -/
abbrev rM : Memref sig .tc .vmem S3x64x256 .bf16 := Memref.whole cc0_scratch1

/-- Each landing slot lies inside the landing buffer. -/
theorem slot_inb (s : Fin 3) : ∀ a, (![s.val, 0, 0] : Fin 3 → Nat) a + S1x64x256.size a ≤ S3x64x256.size a := by
  revert s; decide

/-- Landing slot `s` as a rectangle of the landing buffer, -/
abbrev slotR (s : Fin 3) : Rect S3x64x256 := Rect.unit (s := S3x64x256) ![s.val, 0, 0] S1x64x256.size (slot_inb s)
/-- and as the 64 by 256 buffer a copy writes. -/
abbrev slotM (s : Fin 3) : Memref sig .tc .vmem S64x256 .bf16 :=
  (rM.slice (slotR s) (fun _ => rfl)).squeeze S64x256 squeezes_S1x64x256_S64x256
/-- The rows of device `c`'s contribution that copy `s` sends. -/
abbrev srcR (c : Dev nD) (s : Fin 3) : Rect S256x256 :=
  Rect.unit (s := S256x256) (k0_off1 c (BitVec.ofNat 32 (1 + s.val))) S64x256.size (k0_off1_inb c s)
/-- The same rows as the buffer a copy reads. -/
abbrev srcM (c : Dev nD) (s : Fin 3) : Memref sig .tc .vmem S64x256 .bf16 := pM.slice (srcR c s) (fun _ => rfl)

/-- Each of three semaphores lies inside its array. -/
theorem one_inb (s : Fin 3) : ∀ a, (![s.val] : Fin 1 → Nat) a + S1.size a ≤ S3.size a := by revert s; decide

/-- The barrier semaphore, -/
abbrev barS : Sem sig := (SemArray.scalar (sig.barrier 0 rfl) : Sems sig S_).sem
/-- the semaphore that copy `s` credits on its sender, -/
abbrev sendS (s : Fin 3) : DmaSem sig :=
  ((cc0_scratch2.slice (Rect.unit (s := S3) ![s.val] S1.size (one_inb s))).squeeze S_ squeezes_S1_S_ : DmaSems sig S_).sem
/-- and the one it credits where it lands. -/
abbrev recvS (s : Fin 3) : DmaSem sig :=
  ((cc0_scratch3.slice (Rect.unit (s := S3) ![s.val] S1.size (one_inb s))).squeeze S_ squeezes_S1_S_ : DmaSems sig S_).sem

/-- Device `c`'s barrier, -/
abbrev barCell (c : Dev nD) : GSem nD τ sig := ((c : Thread nD τ), .reg barS)
/-- its send semaphore for copy `s`, -/
abbrev sendCell (s : Fin 3) (c : Dev nD) : GSem nD τ sig := ((c : Thread nD τ), .dma (sendS s))
/-- and its receive semaphore for slot `s`. -/
abbrev recvCell (s : Fin 3) (c : Dev nD) : GSem nD τ sig := ((c : Thread nD τ), .dma (recvS s))

/-- A device's seven semaphores of the exchange: the barrier, three send and three receive ones. -/
abbrev CI : Type := Fin 1 ⊕ (Fin 3 ⊕ Fin 3)
/-- Which semaphore each of the seven is, -/
abbrev csem : CI → SemLoc sig
  | .inl _ => .reg barS
  | .inr (.inl s) => .dma (sendS s)
  | .inr (.inr s) => .dma (recvS s)
/-- and which one it is on a given device. -/
abbrev kcell (ck : Dev nD × CI) : GSem nD τ sig := ((ck.1 : Thread nD τ), csem ck.2)
/-- Those scoped to the kernel: all but the barrier. -/
abbrev osem : Fin 3 ⊕ Fin 3 → SemLoc sig
  | .inl s => .dma (sendS s)
  | .inr s => .dma (recvS s)

/-- The seven are different semaphores. -/
theorem csem_injective : Function.Injective csem := by decide

/-- The number of the copy a semaphore of the family `sem` belongs to, if it belongs to one. -/
def copyOf (sem : Fin 3 → DmaSem sig) (q : DmaSem sig) : Option (Fin 3) :=
  if q = sem 0 then some 0 else if q = sem 1 then some 1 else if q = sem 2 then some 2 else none

/-- A send semaphore belongs to its own copy, -/
theorem copyOf_send (s : Fin 3) : copyOf sendS (sendS s) = some s := by revert s; decide
/-- no receive semaphore is a send one, -/
theorem copyOf_send_recv (s : Fin 3) : copyOf sendS (recvS s) = none := by revert s; decide
/-- and a receive semaphore belongs to its own copy. -/
theorem copyOf_recv (s : Fin 3) : copyOf recvS (recvS s) = some s := by revert s; decide

/-- What one copy credits: the bytes of a slot. -/
abbrev N : ℕ := (slotM 0).view.dmaCredit
/-- A copy credits something, -/
theorem N_pos : 0 < N := View.dmaCredit_pos _ (by decide)
/-- as much at every slot -/
theorem credit_slot (s : Fin 3) : (slotM s).view.dmaCredit = N := rfl
/-- as at every source. -/
theorem credit_src (c : Dev nD) (s : Fin 3) : (srcM c s).view.dmaCredit = N := rfl

/-! ## Contents -/

/-- What device `c` is given: the tokens, -/
def xs (c : Dev nD) : (cc0_stg0_0 : Ref sig .tc).ty.Contents (Elt F) :=
  (win0_0.blk (0 : Fin 1)).view.read (Elt F) ((s₀ m ρ).mem ((c : Thread nD τ).loc main_arg0))
/-- the router's weights, -/
def rws (c : Dev nD) : (cc0_stg1_0 : Ref sig .tc).ty.Contents (Elt F) :=
  (win0_1.blk (0 : Fin 1)).view.read (Elt F) ((s₀ m ρ).mem ((c : Thread nD τ).loc main_arg1))
/-- the choices, -/
def ids (c : Dev nD) : (cc0_stg2_0 : Ref sig .tc).ty.Contents (Elt F) :=
  (win0_2.blk (0 : Fin 1)).view.read (Elt F) ((s₀ m ρ).mem ((c : Thread nD τ).loc main_arg2))
/-- its own two experts, -/
def ews (c : Dev nD) : (cc0_stg3_0 : Ref sig .tc).ty.Contents (Elt F) :=
  (win0_3.blk (0 : Fin 1)).view.read (Elt F) ((s₀ m ρ).mem ((c : Thread nD τ).loc main_arg3))
/-- and the shared expert. -/
def sws (c : Dev nD) : (cc0_stg4_0 : Ref sig .tc).ty.Contents (Elt F) :=
  (win0_4.blk (0 : Fin 1)).view.read (Elt F) ((s₀ m ρ).mem ((c : Thread nD τ).loc main_arg4))

/-- The device's number as the kernel computes it. -/
abbrev myW (c : Dev nD) : BitVec 32 := Scalar.remsi (Scalar.divsi (Dev.word c) 1#32) 4#32

/-- The first of the device's two experts, -/
abbrev ewR0 : Rect S2x128x256 := Rect.unit (s := S2x128x256) ![0, 0, 0] S1x128x256.size inb_S2x128x256_S1x128x256_0_0_0
/-- the second, -/
abbrev ewR1 : Rect S2x128x256 := Rect.unit (s := S2x128x256) ![1, 0, 0] S1x128x256.size inb_S2x128x256_S1x128x256_1_0_0
/-- the rows of its own tokens, -/
abbrev xR (c : Dev nD) : Rect S256x128 := Rect.unit (s := S256x128) (k0_off2 c) S64x128.size (k0_off2_inb c)
/-- and the same rows of its contribution. -/
abbrev ownR (c : Dev nD) : Rect S256x256 := Rect.unit (s := S256x256) (k0_off3 c) S64x256.size (k0_off3_inb c)

/-- Device `c`'s contribution to every token. -/
def part (c : Dev nD) : (cc0_scratch0 : Ref sig .tc).ty.Contents (Elt F) :=
  k0_pay7 (myW c) (k0_pay2 (xs m ρ c)) (k0_pay3 (F := F) (ids m ρ c)) (k0_pay4 (xs m ρ c) (rws m ρ c) (ids m ρ c)) (k0_pay5 (F := F))
    (k0_pay6 (myW c)) (ewM.view.readAt (Elt F) ewR0.toLoadRect (ews m ρ c)) (ewM.view.readAt (Elt F) ewR1.toLoadRect (ews m ρ c))

/-- What copy `s` of device `c` sends. -/
def sent (c : Dev nD) (s : Fin 3) : Vec F S64x256 .bf16 := (srcM c s).view.read (Elt F) (part m ρ c)
/-- What landing slot `s` of device `c` receives: copy `s` of the device it is the target of. -/
def landed (c : Dev nD) (s : Fin 3) : Vec F S64x256 .bf16 := sent m ρ (peer s.rev c) s

/-- 64 rows of 256 are one slot of 64 rows of 256. -/
theorem lifts : S64x256.ShapeCasts S1x64x256 := by decide
/-- The same as a slot of the landing buffer. -/
def lift (v : Vec F S64x256 .bf16) : Vec F S1x64x256 .bf16 := shapeCast S1x64x256 v lifts

/-- Device `c`'s result: the shared product for its own tokens, its own contribution to them, and the three received. -/
def outAt (c : Dev nD) : (cc0_stg5_0 : Ref sig .tc).ty.Contents (Elt F) :=
  k0_pay1 (k0_pay9 (k0_pay8 (xM.view.readAt (Elt F) (xR c).toLoadRect (xs m ρ c)) (sws m ρ c) (pM.view.readAt (Elt F) (ownR c).toLoadRect (part m ρ c)))
    (lift (landed m ρ c 1))) (lift (landed m ρ c 0)) (lift (landed m ρ c 2))

/-! ## Ownership of the two scratch buffers -/

/-- Landing slot `s` of device `c`, held whole at contents `f`. -/
def slotPts (c : Dev nD) (s : Fin 3) (f : Buf (Elt F) ((slotM s).view.loc (c : Thread nD τ))) : sProp 𝕄 :=
  (slotM s).view.loc (c : Thread nD τ) ↦[(slotM s).view.set]{fullShare} f

/-- The contribution is read by three copies and one load at once: each holds a quarter of it. -/
def quarter : Fin 3 → PosShare TreeShare
  | 0 => fullShare.left.left
  | 1 => fullShare.left.right
  | 2 => fullShare.right.left
/-- The quarter kept for the load. -/
abbrev lastQuarter : PosShare TreeShare := fullShare.right.right

/-- A quarter of the rows that copy `s` sends. -/
def srcPts (c : Dev nD) (s : Fin 3) : sProp 𝕄 :=
  (srcM c s).view.loc (c : Thread nD τ) ↦[(srcM c s).view.set]{quarter s} part m ρ c
/-- A quarter of the other rows. -/
def srcRest (c : Dev nD) (s : Fin 3) : sProp 𝕄 :=
  ((c : Thread nD τ).loc cc0_scratch0) ↦[Finset.univ \ (srcM c s).view.set]{quarter s} part m ρ c

/-- A slot may be handed over through a semaphore, -/
instance slotPts_storable (c : Dev nD) (s : Fin 3) (f) : BI.Storable (upEmb : UEmb _ 𝕄) (slotPts (F := F) c s f) := by unfold slotPts; infer_instance
/-- and so may a quarter of the rows sent. -/
instance srcPts_storable (c : Dev nD) (s : Fin 3) : BI.Storable (upEmb : UEmb _ 𝕄) (srcPts (F := F) m ρ c s) := by unfold srcPts; infer_instance

/-! ## The schedule -/

/-- What duty `t` of device `c`'s barrier hands over: the landing slot copy `t` of `c` goes to, ready to receive. -/
def barPay (c : Dev nD) (t : Fin 3) : sProp 𝕄 :=
  iprop((∃ f, slotPts (peer t c) t f) ∗ reached ER (recvCell t (peer t c)) 0)
/-- What the arrival of a copy hands over: the slot with the rows sent. -/
def recvPay (c : Dev nD) (s : Fin 3) : sProp 𝕄 :=
  iprop(∃ f, ⌜(slotM s).view.read (Elt F) f = landed m ρ c s⌝ ∗ slotPts c s f)

/-- Every semaphore has one round. A barrier has a duty of one unit per peer; a send or a receive semaphore one duty
    of a slot's bytes. -/
def plan : Rounds.Schedule (GSem nD τ sig) (Fin 3) 𝕄 where
  duties g r := if r = 0 ∧ g.1.2 = .tc then
      (match g.2 with
        | .reg q => if q = barS then Finset.univ else ∅
        | .dma q => if (copyOf sendS q).isSome ∨ (copyOf recvS q).isSome then {0} else ∅)
    else ∅
  unitless _ := False
  amount g _ _ := match g.2 with
    | .reg _ => 1
    | .dma _ => N
  payload g _ t := match g.2 with
    | .reg _ => barPay g.1.1 t
    | .dma q => match copyOf sendS q, copyOf recvS q with
      | some s, _ => srcPts m ρ g.1.1 s
      | none, some s => recvPay m ρ g.1.1 s
      | none, none => iprop(emp)
  amount_pos g _ _ _ := by split; exacts [Nat.one_pos, N_pos]

/-- Everything the schedule hands over may be kept in an invariant. -/
instance plan_payload_storable (g : GSem nD τ sig) (r : ℕ) (t : Fin 3) :
    BI.Storable (upEmb : UEmb _ 𝕄) ((plan (F := F) m ρ).payload g r t) := by
  show BI.Storable upEmb (match g.2 with
    | .reg _ => barPay g.1.1 t
    | .dma q => match copyOf sendS q, copyOf recvS q with
      | some s, _ => srcPts m ρ g.1.1 s
      | none, some s => recvPay m ρ g.1.1 s
      | none, none => iprop(emp))
  unfold barPay recvPay
  (repeat' split) <;> infer_instance

section Plan
variable (c : Dev nD) (s : Fin 3)

/-- A barrier's round has all three duties, -/
theorem duties_bar : (plan (F := F) m ρ).duties (barCell c) 0 = Finset.univ := by
  dsimp only [plan]; rw [if_pos ⟨rfl, rfl⟩, if_pos rfl]
/-- a send semaphore's has one, -/
theorem duties_send : (plan (F := F) m ρ).duties (sendCell s c) 0 = {0} := by
  dsimp only [plan]; rw [if_pos ⟨rfl, rfl⟩, copyOf_send]; rfl
/-- a receive semaphore's has one, -/
theorem duties_recv : (plan (F := F) m ρ).duties (recvCell s c) 0 = {0} := by
  dsimp only [plan]; rw [if_pos ⟨rfl, rfl⟩, copyOf_recv, if_pos (.inr rfl)]
/-- and no later round has any. -/
theorem duties_later (g : GSem nD τ sig) : ∀ r, 1 ≤ r → (plan (F := F) m ρ).duties g r = ∅ :=
  fun r hr => by dsimp only [plan]; rw [if_neg fun h => by omega]

/-- A duty is one unit at a barrier, -/
theorem amount_bar (t : Fin 3) : (plan (F := F) m ρ).amount (barCell c) 0 t = 1 := rfl
/-- a slot's bytes at a send semaphore -/
theorem amount_send (t : Fin 3) : (plan (F := F) m ρ).amount (sendCell s c) 0 t = N := rfl
/-- and at a receive one. -/
theorem amount_recv (t : Fin 3) : (plan (F := F) m ρ).amount (recvCell s c) 0 t = N := rfl

/-- So a barrier collects three units. -/
theorem expect_bar : (plan (F := F) m ρ).expect (barCell c) 0 = 3 :=
  (Finset.sum_congr (duties_bar m ρ c) fun t _ => amount_bar m ρ c t).trans rfl

variable {m ρ} in
/-- A semaphore with the one duty 0 collects what that duty is worth, -/
theorem solo_expect {g : GSem nD τ sig} (h : (plan (F := F) m ρ).duties g 0 = {0}) :
    (plan (F := F) m ρ).expect g 0 = (plan (F := F) m ρ).amount g 0 0 :=
  (congrArg (fun D => (plan (F := F) m ρ).amountOf g 0 D) h).trans (Finset.sum_singleton _ _)

variable {m ρ} in
/-- and its whole round hands over what that duty does. -/
theorem solo_rest {g : GSem nD τ sig} (h : (plan (F := F) m ρ).duties g 0 = {0}) :
    bigSep ((plan (F := F) m ρ).duties g 0 \ ∅) ((plan (F := F) m ρ).payload g 0) = (plan (F := F) m ρ).payload g 0 0 := by
  simp only [h, Finset.sdiff_empty, bigSep_singleton]

/-- A send semaphore collects one slot's bytes, -/
theorem expect_send : (plan (F := F) m ρ).expect (sendCell s c) 0 = N := solo_expect (duties_send m ρ c s)
/-- and a receive semaphore as many. -/
theorem expect_recv : (plan (F := F) m ρ).expect (recvCell s c) 0 = N := solo_expect (duties_recv m ρ c s)

/-- A barrier hands over a peer's slot, -/
theorem payload_bar (t : Fin 3) : (plan (F := F) m ρ).payload (barCell c) 0 t = barPay c t := rfl
/-- a send semaphore the rows that were lent to the copy, -/
theorem payload_send (t : Fin 3) : (plan (F := F) m ρ).payload (sendCell s c) 0 t = srcPts m ρ c s := by
  dsimp only [plan]; rw [copyOf_send]
/-- and a receive semaphore the slot with what landed. -/
theorem payload_recv (t : Fin 3) : (plan (F := F) m ρ).payload (recvCell s c) 0 t = recvPay m ρ c s := by
  dsimp only [plan]; rw [copyOf_send_recv, copyOf_recv]

/-- A `∗` over the three copies, written out. -/
theorem bigSep_copies (Φ : Fin 3 → sProp 𝕄) : bigSep Finset.univ Φ = iprop(Φ 0 ∗ Φ 1 ∗ Φ 2) :=
  bigSep_univ_eq_bigSepL [0, 1, 2] (by decide) (by decide) Φ

/-- The whole round of a barrier: the three slots this device copies to. -/
theorem rest_bar : bigSep ((plan (F := F) m ρ).duties (barCell c) 0 \ ∅) (fun t => (plan (F := F) m ρ).payload (barCell c) 0 t)
    = iprop(barPay c 0 ∗ barPay c 1 ∗ barPay c 2) := by
  rw [Finset.sdiff_empty, duties_bar, bigSep_copies]; rfl
/-- The whole round of a send semaphore: the rows come back. -/
theorem rest_send : bigSep ((plan (F := F) m ρ).duties (sendCell s c) 0 \ ∅) (fun t => (plan (F := F) m ρ).payload (sendCell s c) 0 t)
    = srcPts m ρ c s := (solo_rest (duties_send m ρ c s)).trans (payload_send m ρ c s 0)
/-- The whole round of a receive semaphore: the slot is filled. -/
theorem rest_recv : bigSep ((plan (F := F) m ρ).duties (recvCell s c) 0 \ ∅) (fun t => (plan (F := F) m ρ).payload (recvCell s c) 0 t)
    = recvPay m ρ c s := (solo_rest (duties_recv m ρ c s)).trans (payload_recv m ρ c s 0)

end Plan

/-! ## What a device owes, in the order it pays -/

/-- Before its last copy, number 2, -/
def owe2 (c : Dev nD) : CellTallies nD τ sig Unit := tallyAt (recvCell 2 (peer 2 c)) () N
/-- before copy 0, -/
def owe02 (c : Dev nD) : CellTallies nD τ sig Unit := owe2 c + tallyAt (recvCell 0 (peer 0 c)) () N
/-- before copy 1, its first: all three receive credits; -/
def oweCopies (c : Dev nD) : CellTallies nD τ sig Unit := owe02 c + tallyAt (recvCell 1 (peer 1 c)) () N
/-- before its third announcement, -/
def oweB2 (c : Dev nD) : CellTallies nD τ sig Unit := oweCopies c + tallyAt (barCell (peer 2 c)) () 1
/-- its second, -/
def oweB1 (c : Dev nD) : CellTallies nD τ sig Unit := oweB2 c + tallyAt (barCell (peer 1 c)) () 1
/-- and its first: what it owes at launch. -/
def O₀ (c : Dev nD) : CellTallies nD τ sig Unit := oweB1 c + tallyAt (barCell (peer 0 c)) () 1

/-- Credits are counted on the devices' own threads only. -/
def L (g : GSem nD τ sig) : Finset Unit := if g.1.2 = .tc then {()} else ∅
/-- Barriers are waited for before receive semaphores; nothing is owed to the others. -/
def lv (g : GSem nD τ sig) (_ : Unit) : ℕ := match g.2 with
  | .reg _ => 1
  | .dma q => if (copyOf recvS q).isSome then 2 else 0

/-- On another thread nothing is counted, -/
theorem L_of_ne (g : GSem nD τ sig) (h : g.1.2 ≠ .tc) : L g = ∅ := if_neg h
/-- on a device's own thread everything is. -/
theorem L_tc (c : Dev nD) (sm : SemLoc sig) : L ((c : Thread nD τ), sm) = {()} := if_pos rfl
/-- A receive semaphore has the highest level. -/
theorem lv_recv (s : Fin 3) (c : Dev nD) : lv (recvCell s c) () = 2 := by dsimp only [lv]; rw [copyOf_recv]; rfl

/-- What is owed at one semaphore is owed at no other. -/
theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h; exact Nat.lt_irrefl 0 h
/-- What a sum of debts owes, one of the two owes. -/
theorem add_pos {A B : CellTallies nD τ sig Unit} {g : GSem nD τ sig} {u : Unit} (h : 0 < (A + B) g u) : 0 < A g u ∨ 0 < B g u := by
  rw [Pi.add_apply, Finsupp.add_apply] at h; omega

/-- Before its copies a device owes receive credits only. -/
theorem oweCopies_pos {c : Dev nD} {g : GSem nD τ sig} {u : Unit} (h : 0 < oweCopies c g u) : ∃ s, g = recvCell s (peer s c) := by
  rcases add_pos h with h | h
  · rcases add_pos h with h | h
    · exact ⟨2, tally_pos h⟩
    · exact ⟨0, tally_pos h⟩
  · exact ⟨1, tally_pos h⟩
/-- At launch it owes receive credits and announcements only. -/
theorem O₀_pos {c : Dev nD} {g : GSem nD τ sig} {u : Unit} (h : 0 < O₀ c g u) :
    (∃ s, g = recvCell s (peer s c)) ∨ ∃ s, g = barCell (peer s c) := by
  rcases add_pos h with h | h
  · rcases add_pos h with h | h
    · rcases add_pos h with h | h
      · exact .inl (oweCopies_pos h)
      · exact .inr ⟨2, tally_pos h⟩
    · exact .inr ⟨1, tally_pos h⟩
  · exact .inr ⟨0, tally_pos h⟩

/-- A device may wait at a semaphore of its own while all it owes is at semaphores of devices with higher levels. -/
theorem mayWait_under (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O := by
  have own : ∀ g : GSem nD τ sig, g.1.2 = .tc → () ∈ L g := fun g hg => by unfold L; rw [if_pos hg]; exact Finset.mem_singleton_self ()
  refine MayOwe.of_levAts (fun p hp => ?_) (fun g u hg => own g (h g u hg).1) fun g u hg p hp => ?_
  · exact own _ (by rw [Finset.mem_singleton.mp hp])
  · rw [Finset.mem_singleton.mp hp]; exact (h g u hg).2

/-- The staging semaphores sit below everything owed. -/
theorem mayWait_stage (c : Dev nD) (q : DmaSem sig) (hq : copyOf recvS q = none) (O : CellTallies nD τ sig Unit) (hO : O = O₀ c ∨ O = 0) :
    (levAts L lv : sProp 𝕄) ⊢ MayWait (c : Thread nD τ) (.dma q) () O := by
  have low : lv ((c : Thread nD τ), .dma q) () = 0 := by unfold lv; simp [hq]
  refine mayWait_under c _ O fun g u hg => ?_
  rw [low]
  rcases hO with rfl | rfl
  · obtain ⟨s, rfl⟩ | ⟨s, rfl⟩ := O₀_pos hg
    · exact ⟨rfl, by rw [lv_recv]; decide⟩
    · exact ⟨rfl, Nat.one_pos⟩
  · exact absurd hg (Nat.lt_irrefl 0)

/-- A barrier sits below the receive credits owed when it is waited for. -/
theorem mayWait_bar (c : Dev nD) :
    (levAts L lv : sProp 𝕄) ⊢ MayWait (c : Thread nD τ) (.reg barS) () (oweCopies c) :=
  mayWait_under c _ _ fun g u hg => by
    obtain ⟨s, rfl⟩ := oweCopies_pos hg
    exact ⟨rfl, by rw [lv_recv]; exact Nat.lt_succ_self 1⟩

/-! ## What a device's body starts from and ends with -/

/-- Every semaphore's invariant under the names `K`, and that every one is at its round 0. -/
def records (K : Dev nD × CI → ℕ) : sProp 𝕄 :=
  iprop((bigSep Finset.univ fun ck : Dev nD × CI => cellInv ER (plan m ρ) (K ck) (kcell ck))
    ∗ bigSep Finset.univ fun ck : Dev nD × CI => reached ER (kcell ck) 0)

/-- These facts may be used any number of times. -/
instance records_persistent (K : Dev nD × CI → ℕ) : BI.Persistent (records m ρ K) := by unfold records; infer_instance

/-- They contain each semaphore's invariant, -/
theorem inv_at (K : Dev nD × CI → ℕ) (ck : Dev nD × CI) : records m ρ K ⊢ cellInv ER (plan m ρ) (K ck) (kcell ck) := by
  have h : (bigSep Finset.univ fun ck : Dev nD × CI => (cellInv ER (plan m ρ) (K ck) (kcell ck) : sProp 𝕄)) ⊢ cellInv ER (plan m ρ) (K ck) (kcell ck) :=
    bigSep_elim (Finset.mem_univ ck)
  unfold records
  iintro ⟨H, -⟩
  iapply h; iexact H
/-- and that it is at its round 0. -/
theorem reached_at (K : Dev nD × CI → ℕ) (ck : Dev nD × CI) : records m ρ K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records
  iintro ⟨-, H⟩
  iapply h; iexact H

/-- The duties device `c` pays for copy `s`: its announcement to that peer, the arrival there, and the departure here. -/
def payToks (c : Dev nD) (s : Fin 3) : sProp 𝕄 :=
  iprop(dutyTok ER (barCell (peer s c)) 0 s.rev ∗ dutyTok ER (recvCell s (peer s c)) 0 0 ∗ dutyTok ER (sendCell s c) 0 0)

/-- What is device `c`'s alone: where it stands at its seven semaphores, and the duties it pays. -/
def linear (c : Dev nD) : sProp 𝕄 :=
  iprop((bigSep Finset.univ fun k : CI => atPos ER (kcell (c, k)) 0 ∅ 0) ∗ bigSep Finset.univ fun s => payToks c s)

/-- The credits it will collect. -/
def credits (c : Dev nD) : sProp 𝕄 :=
  iprop(cred (tallyAt (barCell c) () 3) ∗ bigSep Finset.univ fun s => cred (tallyAt (recvCell s c) () N))

/-- What a device has when its body begins, the buffers apart. -/
def start (c : Dev nD) : sProp 𝕄 :=
  iprop((∃ K, records m ρ K ∗ linear c) ∗ credits c ∗ levAts L lv)

/-- The two scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- At the beginning: that, and the scratch buffers. -/
def Φ₀ (c : Dev nD) : sProp 𝕄 := iprop(start m ρ c ∗ scratch c)
/-- At the end the scratch is back and all seven counters are at zero. -/
def Φ₁ (c : Dev nD) : sProp 𝕄 := iprop(scratch c ∗ bigSep Finset.univ fun k : CI => semVal (kcell (c, k)) 0)

/-- The pipeline's one step: what every staged array holds after it, what the device holds before and after it, and
what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => rws m ρ c
    | ⟨2, _⟩ => ids m ρ c
    | ⟨3, _⟩ => ews m ρ c
    | ⟨4, _⟩ => sws m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- No loop needs a measure. -/
abbrev 𝒱₀ : Variants := Variants.none

end Cert.KernelIdeal.Exchange

end
-- ==== Proof.KernelIdeal.Steps.lean ====
/- The steps of the exchange, each for any device and any of its three copies: announcing, copying, waiting, closing; and how
the two scratch buffers are split between them and put together again. -/
module

public import proofs.«01_k».proof.Proof.KernelIdeal.Protocol

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Splitting the scratch buffers and putting them together -/

/-- The elements of a landing slot are those of its rectangle: -/
theorem slot_set (s : Fin 3) : ((slotM s).view.set : Finset S3x64x256.Idx) = (slotR s).set :=
  (View.set_reshape _ _).trans (View.set_slice_whole cc0_scratch1 (slotR s))

/-- those whose first coordinate is the slot's number. -/
theorem mem_slot (s : Fin 3) (i : S3x64x256.Idx) : i ∈ (slotR s).set ↔ (i 0 : ℕ) = s.val := by
  rw [Rect.mem_set_unit]
  have h1 : (i 1 : ℕ) < 64 := (i 1).isLt
  have h2 : (i 2 : ℕ) < 256 := (i 2).isLt
  constructor
  · intro h; have := h 0; simp at this; omega
  · intro h a; fin_cases a <;> simp <;> omega

/-- Two slots share no element, -/
theorem slots_disjoint (s s' : Fin 3) (h : s ≠ s') : Disjoint ((slotR s).set : Finset S3x64x256.Idx) (slotR s').set :=
  Finset.disjoint_left.mpr fun i hi hi' => h (Fin.ext (((mem_slot s i).mp hi).symm.trans ((mem_slot s' i).mp hi')))
/-- and the three together are the whole buffer. -/
theorem slots_cover : (Finset.univ : Finset (Fin 3)).biUnion (fun s => ((slotR s).set : Finset S3x64x256.Idx)) = Finset.univ :=
  Finset.eq_univ_iff_forall.mpr fun i => Finset.mem_biUnion.mpr ⟨⟨(i 0 : ℕ), (i 0).isLt⟩, Finset.mem_univ _, (mem_slot _ i).mpr rfl⟩

/-- The landing buffer is its three slots, -/
theorem slots_split (c : Dev nD) (f : Buf (Elt F) ((c : Thread nD τ).loc cc0_scratch1)) :
    (((c : Thread nD τ).loc cc0_scratch1) ↦{fullShare} f : sProp 𝕄) ⊢ iprop(slotPts c 0 f ∗ slotPts c 1 f ∗ slotPts c 2 f) := by
  rw [Ring.pointsTo_blocks (fun s : Fin 3 => ((slotR s).set : Finset S3x64x256.Idx)) slots_disjoint slots_cover f, bigSep_copies]
  unfold slotPts; rw [slot_set, slot_set, slot_set]
/-- and three slots at any contents are a landing buffer at some contents. -/
theorem slots_join (c : Dev nD) :
    (iprop((∃ f, slotPts c 0 f) ∗ (∃ f, slotPts c 1 f) ∗ (∃ f, slotPts c 2 f)) : sProp 𝕄)
      ⊢ iprop(∃ f : Buf (Elt F) ((c : Thread nD τ).loc cc0_scratch1), ((c : Thread nD τ).loc cc0_scratch1) ↦{fullShare} f) := by
  iintro ⟨⟨%f, H0⟩, H1, H2⟩
  iapply (Ring.pointsTo_blocks_join_exists (ℓ := (c : Thread nD τ).loc cc0_scratch1) (fun s : Fin 3 => ((slotR s).set : Finset S3x64x256.Idx)) slots_disjoint slots_cover f)
  rw [bigSep_copies]
  unfold slotPts; rw [slot_set, slot_set, slot_set]
  isplitl [H0]; · iexists f; iexact H0
  isplitl [H1]; · iexact H1
  iexact H2

/-- The contribution held whole is four quarters. -/
theorem quarters (c : Dev nD) (f : Buf (Elt F) ((c : Thread nD τ).loc cc0_scratch0)) :
    (((c : Thread nD τ).loc cc0_scratch0) ↦{fullShare} f : sProp 𝕄)
      ⊣⊢ iprop(((((c : Thread nD τ).loc cc0_scratch0) ↦{quarter 0} f) ∗ (((c : Thread nD τ).loc cc0_scratch0) ↦{quarter 1} f))
        ∗ (((c : Thread nD τ).loc cc0_scratch0) ↦{quarter 2} f) ∗ (((c : Thread nD τ).loc cc0_scratch0) ↦{lastQuarter} f)) :=
  (pointsTo_share (PosShare.mem_left_op_right fullShare)).trans
    (sep_congr (pointsTo_share (PosShare.mem_left_op_right fullShare.left)) (pointsTo_share (PosShare.mem_left_op_right fullShare.right)))

/-- A quarter is the rows a copy sends and the others. -/
theorem quarter_rows (c : Dev nD) (s : Fin 3) :
    (((c : Thread nD τ).loc cc0_scratch0) ↦{quarter s} part m ρ c : sProp 𝕄) ⊣⊢ iprop(srcPts m ρ c s ∗ srcRest m ρ c s) := by
  unfold srcPts srcRest
  exact pointsTo_split_subset (Finset.subset_univ _)

/-- The contribution split for the copies, -/
theorem part_split (c : Dev nD) :
    (((c : Thread nD τ).loc cc0_scratch0) ↦{fullShare} part m ρ c : sProp 𝕄)
      ⊢ iprop((srcPts m ρ c 0 ∗ srcPts m ρ c 1 ∗ srcPts m ρ c 2) ∗ (srcRest m ρ c 0 ∗ srcRest m ρ c 1 ∗ srcRest m ρ c 2)
        ∗ (((c : Thread nD τ).loc cc0_scratch0) ↦{lastQuarter} part m ρ c)) := by
  iintro H
  ihave H := (quarters c (part m ρ c)).1 $$ H
  icases H with ⟨⟨H0, H1⟩, H2, H3⟩
  ihave H0 := (quarter_rows m ρ c 0).1 $$ H0
  ihave H1 := (quarter_rows m ρ c 1).1 $$ H1
  ihave H2 := (quarter_rows m ρ c 2).1 $$ H2
  icases H0 with ⟨H0, R0⟩
  icases H1 with ⟨H1, R1⟩
  icases H2 with ⟨H2, R2⟩
  isplitl [H0 H1 H2]
  · isplitl [H0]; · iexact H0
    isplitl [H1] <;> iassumption
  isplitl [R0 R1 R2]
  · isplitl [R0]; · iexact R0
    isplitl [R1] <;> iassumption
  iexact H3

/-- and put together after them. -/
theorem part_join (c : Dev nD) :
    iprop((srcPts m ρ c 0 ∗ srcPts m ρ c 1 ∗ srcPts m ρ c 2) ∗ (srcRest m ρ c 0 ∗ srcRest m ρ c 1 ∗ srcRest m ρ c 2)
        ∗ (((c : Thread nD τ).loc cc0_scratch0) ↦{lastQuarter} part m ρ c))
      ⊢ (((c : Thread nD τ).loc cc0_scratch0) ↦{fullShare} part m ρ c : sProp 𝕄) := by
  iintro ⟨⟨H0, H1, H2⟩, ⟨R0, R1, R2⟩, H3⟩
  iapply (quarters c (part m ρ c)).2
  isplitl [H0 H1 R0 R1]
  · isplitl [H0 R0]
    · iapply (quarter_rows m ρ c 0).2; isplitl [H0] <;> iassumption
    · iapply (quarter_rows m ρ c 1).2; isplitl [H1] <;> iassumption
  isplitl [H2 R2]
  · iapply (quarter_rows m ρ c 2).2; isplitl [H2] <;> iassumption
  iexact H3

/-! ## What the loads read and the stores write -/

/-- The offset of a load or store of a whole matrix. -/
theorem zero2 : (![0, 0] : Fin 2 → Nat) = fun _ => 0 := List.ofFn_injective rfl

/-- Loading the tokens whole reads them as they are, -/
theorem read_x (f : (cc0_stg0_0 : Ref sig .tc).ty.Contents (Elt F)) (h) :
    xM.view.readAt (Elt F) (Rect.unit (s := S256x128) ![0, 0] S256x128.size h).toLoadRect f = f := Memref.readAt_unit_zero (Elt F) cc0_stg0_0 zero2 _ f
/-- so does loading the router's weights, -/
theorem read_rw (f : (cc0_stg1_0 : Ref sig .tc).ty.Contents (Elt F)) (h) :
    rwM.view.readAt (Elt F) (Rect.unit (s := S128x8) ![0, 0] S128x8.size h).toLoadRect f = f := Memref.readAt_unit_zero (Elt F) cc0_stg1_0 zero2 _ f
/-- the choices, -/
theorem read_id (f : (cc0_stg2_0 : Ref sig .tc).ty.Contents (Elt F)) (h) :
    idM.view.readAt (Elt F) (Rect.unit (s := S256x1) ![0, 0] S256x1.size h).toLoadRect f = f := Memref.readAt_unit_zero (Elt F) cc0_stg2_0 zero2 _ f
/-- and the shared expert. -/
theorem read_sw (f : (cc0_stg4_0 : Ref sig .tc).ty.Contents (Elt F)) (h) :
    swM.view.readAt (Elt F) (Rect.unit (s := S128x256) ![0, 0] S128x256.size h).toLoadRect f = f := Memref.readAt_unit_zero (Elt F) cc0_stg4_0 zero2 _ f
/-- Storing the contribution leaves just what was stored, -/
theorem write_part (f w : (cc0_scratch0 : Ref sig .tc).ty.Contents (Elt F)) (h) :
    (pM.access (Rect.unit (s := S256x256) ![0, 0] S256x256.size h) : View sig .tc _ _ _).write (Elt F) f w Finset.univ = w :=
  Memref.write_access_unit_zero_univ (Elt F) cc0_scratch0 zero2 _ f w
/-- and so does storing the result. -/
theorem write_out (f w : (cc0_stg5_0 : Ref sig .tc).ty.Contents (Elt F)) (h) :
    (oM.access (Rect.unit (s := S64x256) ![0, 0] S64x256.size h) : View sig .tc _ _ _).write (Elt F) f w Finset.univ = w :=
  Memref.write_access_unit_zero_univ (Elt F) cc0_stg5_0 zero2 _ f w

/-- A load of a slot reads what landed there. -/
theorem read_slot {c : Dev nD} {s : Fin 3} {f : Buf (Elt F) ((slotM s).view.loc (c : Thread nD τ))} {v : Vec F S64x256 .bf16}
    (h : (slotM s).view.read (Elt F) f = v) : rM.view.readAt (Elt F) (slotR s).toLoadRect f = lift v := by
  subst h
  rw [Memref.read_squeeze_slice rM (slotR s) (fun _ => rfl) squeezes_S1x64x256_S64x256 (show S1x64x256.ShapeCasts S64x256 by decide) f]
  exact (shapeCast_shapeCast _ _ _).symm

/-- It reads within the slot. -/
theorem slot_reads (s : Fin 3) : (rM.view.setOn (slotR s).toLoadRect.set : Finset S3x64x256.Idx) ⊆ (slotM s).view.set := by
  rw [slot_set]; intro i hi
  obtain ⟨j, hj, rfl⟩ := Finset.mem_map.mp hi
  exact hj

/-! ## The steps of the exchange -/

section Steps

variable (K : Dev nD × CI → ℕ)

/-- What copy `s` of device `c` sends lands at its target. -/
theorem landed_peer (c : Dev nD) (s : Fin 3) : landed m ρ (peer s c) s = sent m ρ c s := by unfold landed; rw [peer_rev_peer]

/-- The slot copy `s` has been written to is what its arrival hands over. -/
theorem arrival (c : Dev nD) (s : Fin 3) (fn : Buf (Elt F) ((slotM s).view.loc (peer s c : Thread nD τ))) :
    slotPts (peer s c) s ((slotM s).view.write (Elt F) fn (sent m ρ c s) Finset.univ) ⊢ recvPay m ρ (peer s c) s := by
  unfold recvPay
  iintro H
  iexists ((slotM s).view.write (Elt F) fn (sent m ρ c s) Finset.univ)
  isplitr
  · ipureintro; exact (View.read_write_univ _ _).trans (landed_peer m ρ c s).symm
  iexact H

/-- Copy `s`, addressed to `n = peer s c`: it takes a quarter of the rows it sends and the slot it goes to, and pays one
    receive credit of what the device owes. -/
theorem wp_copy (s : Fin 3) (c n : Dev nD) (hn : n = peer s c) {hsc : (slotM s : Memref sig (Dev.tc n : Thread nD τ).2.kind .vmem S64x256 .bf16).view.ref.isScScratch = false}
    {hsrc : (srcM c s).view.WordExact} {hdst : (slotM s).view.WordExact}
    {hsem : DmaTarget.Typed .vmem (.dma (recvS s)) (.remote (Dev.tc n : Thread nD τ) (slotM s) (.dma (sendS s)) hsc)}
    {α : Type} {Q : α → sProp 𝕄} {k : PUnit → Prog (TpuEff nD τ sig (Elt F) Λ₀ .tc) α}
    (fn : Buf (Elt F) ((slotM s).view.loc (peer s c : Thread nD τ))) (O O' : CellTallies nD τ sig Unit) (hO : O = O' + tallyAt (recvCell s (peer s c)) () N) (W : Waits sig Unit) :
    iprop(records m ρ K ∗ srcPts m ρ c s ∗ slotPts (peer s c) s fn ∗ owes (c : Thread nD τ) O W
        ∗ dutyTok ER (sendCell s c) 0 0 ∗ dutyTok ER (recvCell s (peer s c)) 0 0)
      ⊢ iprop(((cred (tallyAt (sendCell s c) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM c s) (.remote (Dev.tc n : Thread nD τ) (slotM s) (.dma (sendS s)) hsc) (.dma (recvS s)) hsrc hdst hsem) k) Q) := by
  subst hn
  iintro ⟨#HR, Hsrc, Hslot, HO, Hts, Htr⟩
  unfold srcPts slotPts
  iapply (Rounds.wp_send_pointsTo 𝒱₀ ER (plan m ρ) (c : Thread nD τ) none (κ₁ := K (c, .inr (.inl s))) (κ₂ := K (peer s c, .inr (.inr s)))
    (r₁ := 0) (r₂ := 0) (d₁ := 0) (d₂ := 0) (fd := fn) (q := quarter s)
    (by rw [duties_send]; exact Finset.mem_singleton_self _) (by rw [duties_recv]; exact Finset.mem_singleton_self _)
    () () N rfl (amount_send m ρ c s 0) (amount_recv m ρ (peer s c) s 0) O' hO (W := W)
    (by rw [payload_send]; exact BI.Entails.refl _)
    (by rw [payload_recv]; exact arrival m ρ c s fn)) $$ [Hsrc Hslot HO Hts Htr]
  isplitr; · iapply (inv_at m ρ K (c, .inr (.inl s))); iexact HR
  isplitr; · iapply (inv_at m ρ K (peer s c, .inr (.inr s))); iexact HR
  isplitl [Hsrc]; · iexact Hsrc
  isplitl [Hslot]; · iexact Hslot
  isplitl [HO]; · iexact HO
  isplitl [Hts]; · iexact Hts
  isplitr; · iapply (reached_at m ρ K (c, .inr (.inl s))); iexact HR
  isplitl [Htr]; · iexact Htr
  iapply (reached_at m ρ K (peer s c, .inr (.inr s))); iexact HR

/-- Announcement `s`, to `n = peer s c`: it hands over the slot that device copies to. -/
theorem wp_announce (s : Fin 3) (c n : Dev nD) (hn : n = peer s c)
    {α : Type} {Q : α → sProp 𝕄} {k : PUnit → Prog (TpuEff nD τ sig (Elt F) Λ₀ .tc) α} {b : ℕ} (hb : b = 1)
    (f : Buf (Elt F) ((slotM s.rev).view.loc (c : Thread nD τ))) (O O' : CellTallies nD τ sig Unit) (hO : O = O' + tallyAt (barCell (peer s c)) () 1) (W : Waits sig Unit) :
    iprop(records m ρ K ∗ slotPts c s.rev f ∗ owes (c : Thread nD τ) O W ∗ dutyTok ER (barCell (peer s c)) 0 s.rev)
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS b) k) Q) := by
  subst hn; subst hb
  iintro ⟨#HR, Hslot, HO, Ht⟩
  iapply (Rounds.wp_signal 𝒱₀ ER (plan m ρ) (c : Thread nD τ) none (dst := (peer s c : Thread nD τ)) (κ := K (peer s c, .inl 0))
      (d := s.rev) (by rw [duties_bar]; exact Finset.mem_univ _) (amount_bar m ρ (peer s c) s.rev) () O' hO) $$ [Hslot HO Ht]
  isplitr; · iapply (inv_at m ρ K (peer s c, .inl 0)); iexact HR
  isplitl [HO]; · iexact HO
  isplitl [Ht]; · iexact Ht
  isplitl [Hslot]
  · rw [payload_bar]; unfold barPay; rw [peer_rev_peer]
    isplitl [Hslot]; · iexists f; iexact Hslot
    iapply (reached_at m ρ K (c, .inr (.inr s.rev))); iexact HR
  · iapply (reached_at m ρ K (peer s c, .inl 0)); iexact HR

/-- A wait for the whole round of semaphore `k`, with `n` credits for it: the round's payloads come. -/
theorem wp_collect (c : Dev nD) (ci : CI) {w : TpuEff nD τ sig (Elt F) Λ₀ .tc PUnit} {n : ℕ}
    (hw : ∀ Kt : PUnit → sProp 𝕄, wpE (defs₀ (F := F)) 𝒱₀ (c : Thread nD τ) none Set.univ w Kt = waitSpec (c : Thread nD τ) Set.univ (csem ci) n Kt)
    (hn : n = (plan (F := F) m ρ).expect (kcell (c, ci)) 0)
    {α : Type} {Q : α → sProp 𝕄} {k : PUnit → Prog (TpuEff nD τ sig (Elt F) Λ₀ .tc) α} {O : CellTallies nD τ sig Unit} {W : Waits sig Unit} :
    iprop(records m ρ K ∗ cred (tallyAt (kcell (c, ci)) () n) ∗ owes (c : Thread nD τ) O W ∗ MayWait (c : Thread nD τ) (csem ci) () O ∗ atPos ER (kcell (c, ci)) 0 ∅ 0)
      ⊢ iprop(((owes (c : Thread nD τ) O (insert (csem ci, ()) W) ∗ atPos ER (kcell (c, ci)) 1 ∅ 0
              ∗ bigSep ((plan (F := F) m ρ).duties (kcell (c, ci)) 0 \ ∅) (fun t => (plan (F := F) m ρ).payload (kcell (c, ci)) 0 t))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HR, Hc, HO, Hm, Hat⟩ Hk
  iapply (Rounds.wp_wait_rest_token 𝒱₀ ER (plan m ρ) (c : Thread nD τ) none (κ := K (c, ci)) hw (Set.mem_univ _) () (O := O) (W := W) (R := 0) (m := 0) (T := ∅)
      (by rw [Nat.zero_add, hn])) $$ [Hc HO Hm Hat]
  · isplitr; · iapply (inv_at m ρ K (c, ci)); iexact HR
    isplitl [Hc]; · iexact Hc
    isplitl [HO]; · iexact HO
    isplitl [Hm]; · iexact Hm
    iexact Hat
  iintro ⟨HO, Hat, -, Hp⟩
  iapply Hk
  isplitl [HO]; · iexact HO
  isplitl [Hat]; · iexact Hat
  iexact Hp

/-- After its one round a semaphore closes: its counter is at zero. -/
theorem close (c : Dev nD) (ci : CI) :
    iprop(records m ρ K ∗ atPos ER (kcell (c, ci)) 1 ∅ 0) ⊢ (iprop(|={Set.univ}=> semVal (kcell (c, ci)) 0) : sProp 𝕄) := by
  iintro ⟨#HR, Hat⟩
  iapply (Rounds.cell_close ER (plan m ρ) (Set.mem_univ (K (c, ci))) (fun h => h) (R := 1) (duties_later m ρ (kcell (c, ci))))
  isplitr; · iapply (inv_at m ρ K (c, ci)); iexact HR
  iexact Hat

/-- A `∗` over a device's seven semaphores, written out. -/
theorem bigSep_cells (Φ : CI → sProp 𝕄) : bigSep Finset.univ Φ
    = iprop(Φ (.inl 0) ∗ (Φ (.inr (.inl 0)) ∗ Φ (.inr (.inl 1)) ∗ Φ (.inr (.inl 2))) ∗ Φ (.inr (.inr 0)) ∗ Φ (.inr (.inr 1)) ∗ Φ (.inr (.inr 2))) := by
  rw [bigSep_univ_sum, bigSep_univ_sum, bigSep_copies, bigSep_copies, bigSep_univ_eq_bigSepL [0] (by decide) (by decide)]; rfl

end Steps

end Cert.KernelIdeal.Exchange

end
-- ==== Proof.KernelIdeal.Body.lean ====
/- The body of the kernel, run once at a device `c`: from its scratch buffers, its place at the seven semaphores and the
credits it will collect, to its result staged and every semaphore back at zero. -/
module

public import proofs.«01_k».proof.Proof.KernelIdeal.Steps

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staging buffer `b` of device `c`, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from: the exchange's start, the scratch, and the staged arrays. -/
def bodyPre (K : Dev nD × CI → ℕ) (c : Dev nD) : sProp 𝕄 :=
  iprop((records m ρ K ∗ linear c ∗ credits c ∗ levAts L lv ∗ scratch c)
    ∗ (dats m ρ 0 c).owesAt () t0_0.castSucc
    ∗ stg c cc0_stg0_0 (xs m ρ c) ∗ stg c cc0_stg1_0 (rws m ρ c) ∗ stg c cc0_stg2_0 (ids m ρ c) ∗ stg c cc0_stg3_0 (ews m ρ c)
    ∗ stg c cc0_stg4_0 (sws m ρ c) ∗ (∃ d, stg c cc0_stg5_0 ((dats m ρ 0 c).before (5 : Fin 6) t0_0 d)))

/-- What it ends with: the arguments as they were, the result written, the counters at zero. -/
def bodyPost (c : Dev nD) : sProp 𝕄 :=
  iprop(Φ₁ c ∗ (dats m ρ 0 c).owesAt () t0_0.succ
    ∗ stg c cc0_stg0_0 (xs m ρ c) ∗ stg c cc0_stg1_0 (rws m ρ c) ∗ stg c cc0_stg2_0 (ids m ρ c) ∗ stg c cc0_stg3_0 (ews m ρ c)
    ∗ stg c cc0_stg4_0 (sws m ρ c) ∗ stg c cc0_stg5_0 (outAt m ρ c))

/-- The contribution, with the device's number and the two experts' loads written out. -/
theorem part_def (c : Dev nD) : part m ρ c = k0_pay7 (Scalar.remsi (Scalar.divsi (Dev.word c) 1#32) 4#32) (k0_pay2 (xs m ρ c)) (k0_pay3 (F := F) (ids m ρ c))
    (k0_pay4 (xs m ρ c) (rws m ρ c) (ids m ρ c)) (k0_pay5 (F := F)) (k0_pay6 (Scalar.remsi (Scalar.divsi (Dev.word c) 1#32) 4#32))
    (ewM.view.readAt (Elt F) (Rect.unit (s := S2x128x256) ![0, 0, 0] S1x128x256.size inb_S2x128x256_S1x128x256_0_0_0).toLoadRect (ews m ρ c))
    (ewM.view.readAt (Elt F) (Rect.unit (s := S2x128x256) ![1, 0, 0] S1x128x256.size inb_S2x128x256_S1x128x256_1_0_0).toLoadRect (ews m ρ c)) := rfl

set_option maxHeartbeats 2000000 in
/-- The body, one rule per effect in program order. -/
theorem sound_body (K : Dev nD × CI → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre linear credits scratch payToks
  rw [bigSep_cells, bigSep_copies, bigSep_copies]
  iintro ⟨⟨⟨#HR, ⟨⟨HaB, ⟨HaS0, HaS1, HaS2⟩, HaV0, HaV1, HaV2⟩, ⟨HtB0, HtV0, HtS0⟩, ⟨HtB1, HtV1, HtS1⟩, ⟨HtB2, HtV2, HtS2⟩⟩, ⟨HcB, HcV0, HcV1, HcV2⟩, #Hlev, ⟨⟨%f0, Hp⟩, ⟨%f1, Hr⟩⟩⟩,
    Ho, ⟨%g0, %hg0, Hx⟩, ⟨%g1, %hg1, Hrw⟩, ⟨%g2, %hg2, Hid⟩, ⟨%g3, %hg3, Hew⟩, ⟨%g4, %hg4, Hsw⟩, ⟨%d5, %g5, %hg5, Hout⟩⟩, Hk⟩
  subst hg0 hg1 hg2 hg3 hg4
  unfold Dat.owesAt Pipeline.owesWithin
  icases Ho with ⟨%W, %hW, HO⟩
  rw [show (dats m ρ 0 c).owed t0_0.castSucc = O₀ c from rfl]
  ihave Hr := (slots_split c f1) $$ Hr
  icases Hr with ⟨Hr0, Hr1, Hr2⟩
  iapply (wp_announce m ρ K 0 c _ (dev1_eq c) (by decide) f1 (O₀ c) (oweB1 c) rfl W) $$ [HO HtB0 Hr2]
  · isplitr; · iexact HR
    isplitl [Hr2]; · iexact Hr2
    isplitl [HO]; · iexact HO
    iexact HtB0
  iintro HO
  -- the second and third announcements
  iapply (wp_announce m ρ K 1 c _ (dev2_eq c) (by decide) f1 (oweB1 c) (oweB2 c) rfl W) $$ [HO HtB1 Hr1]
  · isplitr; · iexact HR
    isplitl [Hr1]; · iexact Hr1
    isplitl [HO]; · iexact HO
    iexact HtB1
  iintro HO
  iapply (wp_announce m ρ K 2 c _ (dev3_eq c) (by decide) f1 (oweB2 c) (oweCopies c) rfl W) $$ [HO HtB2 Hr0]
  · isplitr; · iexact HR
    isplitl [Hr0]; · iexact Hr0
    isplitl [HO]; · iexact HO
    iexact HtB2
  iintro HO
  -- the contribution to every token, stored
  iapply (wp_load 𝒱₀ (c : Thread nD τ) none Set.univ (m := xM) (Finset.subset_univ _)) $$ Hx; iintro Hx
  iapply (wp_load 𝒱₀ (c : Thread nD τ) none Set.univ (m := rwM) (Finset.subset_univ _)) $$ Hrw; iintro Hrw
  iapply (wp_load 𝒱₀ (c : Thread nD τ) none Set.univ (m := idM) (Finset.subset_univ _)) $$ Hid; iintro Hid
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  iapply (wp_load 𝒱₀ (c : Thread nD τ) none Set.univ (m := pM) (Finset.subset_univ _)) $$ Hp; iintro Hp
  iapply (wp_store 𝒱₀ (c : Thread nD τ) none Set.univ (m := pM) (r := Rect.unit (s := S256x256) ![0, 0] S256x256.size inb_S256x256_S256x256_0_0) (Mk := Finset.univ) (Finset.subset_univ _)) $$ Hp; iintro Hp
  rw [write_part, read_x, read_rw, read_id, ← part_def]
  -- the three peers are ready
  iapply (wp_collect m ρ K c (.inl 0) (wpE_semWait_eq 𝒱₀ (c : Thread nD τ) none Set.univ) (by rw [expect_bar]; decide)) $$ [HcB HO HaB]
  · isplitr; · iexact HR
    isplitl [HcB]; · iexact HcB
    isplitl [HO]; · iexact HO
    isplitr; · iapply (mayWait_bar c); iexact Hlev
    iexact HaB
  iintro ⟨HO, HaB, Hpay⟩
  ihave Hpay := (Entails.of_eq (rest_bar m ρ c)) $$ Hpay
  unfold barPay
  icases Hpay with ⟨⟨⟨%n0, Hn0⟩, -⟩, ⟨⟨%n1, Hn1⟩, -⟩, ⟨⟨%n2, Hn2⟩, -⟩⟩
  ihave Hp := (part_split m ρ c) $$ Hp
  icases Hp with ⟨⟨Hs0, Hs1, Hs2⟩, Hrest, Hp⟩
  -- the three copies
  iapply (wp_copy m ρ K 1 c _ (dev4_eq c) n1 (oweCopies c) (owe02 c) rfl _) $$ [HO Hs1 Hn1 HtS1 HtV1]
  · isplitr; · iexact HR
    isplitl [Hs1]; · iexact Hs1
    isplitl [Hn1]; · iexact Hn1
    isplitl [HO]; · iexact HO
    isplitl [HtS1] <;> iassumption
  iintro ⟨HcS1, HO⟩
  iapply (wp_copy m ρ K 0 c _ (dev5_eq c) n0 (owe02 c) (owe2 c) rfl _) $$ [HO Hs0 Hn0 HtS0 HtV0]
  · isplitr; · iexact HR
    isplitl [Hs0]; · iexact Hs0
    isplitl [Hn0]; · iexact Hn0
    isplitl [HO]; · iexact HO
    isplitl [HtS0] <;> iassumption
  iintro ⟨HcS0, HO⟩
  iapply (wp_copy m ρ K 2 c _ (dev6_eq c) n2 (owe2 c) 0 (by rw [zero_add]; rfl) _) $$ [HO Hs2 Hn2 HtS2 HtV2]
  · isplitr; · iexact HR
    isplitl [Hs2]; · iexact Hs2
    isplitl [Hn2]; · iexact Hn2
    isplitl [HO]; · iexact HO
    isplitl [HtS2] <;> iassumption
  iintro ⟨HcS2, HO⟩
  -- the shared product and the device's own rows
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  iapply (wp_load 𝒱₀ (c : Thread nD τ) none Set.univ (m := pM) (Finset.subset_univ _)) $$ Hp; iintro Hp
  rw [read_sw]
  -- each copy gone and the matching one arrived
  iapply (wp_collect m ρ K c (.inr (.inl 1)) (wpE_waitDma2_eq 𝒱₀ (c : Thread nD τ) none Set.univ) (by rw [expect_send])) $$ [HcS1 HO HaS1]
  · isplitr; · iexact HR
    isplitl [HcS1]; · iexact HcS1
    isplitl [HO]; · iexact HO
    isplitr; · rw [MayWait_zero]; iempintro
    iexact HaS1
  iintro ⟨HO, HaS1, Hpay⟩
  ihave Hs1 := (Entails.of_eq (rest_send m ρ c 1)) $$ Hpay
  iapply (wp_collect m ρ K c (.inr (.inr 1)) (wpE_waitDma2_eq 𝒱₀ (c : Thread nD τ) none Set.univ) (by rw [expect_recv])) $$ [HcV1 HO HaV1]
  · isplitr; · iexact HR
    isplitl [HcV1]; · iexact HcV1
    isplitl [HO]; · iexact HO
    isplitr; · rw [MayWait_zero]; iempintro
    iexact HaV1
  iintro ⟨HO, HaV1, Hpay⟩
  ihave Hr1 := (Entails.of_eq (rest_recv m ρ c 1)) $$ Hpay
  unfold recvPay
  icases Hr1 with ⟨%r1, %hr1, Hr1⟩
  unfold slotPts
  iapply (wp_load 𝒱₀ (c : Thread nD τ) none Set.univ (m := rM) (slot_reads 1)) $$ Hr1; iintro Hr1
  rw [read_slot (c := c) hr1]
  iapply (wp_collect m ρ K c (.inr (.inl 0)) (wpE_waitDma2_eq 𝒱₀ (c : Thread nD τ) none Set.univ) (by rw [expect_send])) $$ [HcS0 HO HaS0]
  · isplitr; · iexact HR
    isplitl [HcS0]; · iexact HcS0
    isplitl [HO]; · iexact HO
    isplitr; · rw [MayWait_zero]; iempintro
    iexact HaS0
  iintro ⟨HO, HaS0, Hpay⟩
  ihave Hs0 := (Entails.of_eq (rest_send m ρ c 0)) $$ Hpay
  iapply (wp_collect m ρ K c (.inr (.inr 0)) (wpE_waitDma2_eq 𝒱₀ (c : Thread nD τ) none Set.univ) (by rw [expect_recv])) $$ [HcV0 HO HaV0]
  · isplitr; · iexact HR
    isplitl [HcV0]; · iexact HcV0
    isplitl [HO]; · iexact HO
    isplitr; · rw [MayWait_zero]; iempintro
    iexact HaV0
  iintro ⟨HO, HaV0, Hpay⟩
  ihave Hr0 := (Entails.of_eq (rest_recv m ρ c 0)) $$ Hpay
  unfold recvPay
  icases Hr0 with ⟨%r0, %hr0, Hr0⟩
  unfold slotPts
  iapply (wp_load 𝒱₀ (c : Thread nD τ) none Set.univ (m := rM) (slot_reads 0)) $$ Hr0; iintro Hr0
  rw [read_slot (c := c) hr0]
  iapply (wp_collect m ρ K c (.inr (.inl 2)) (wpE_waitDma2_eq 𝒱₀ (c : Thread nD τ) none Set.univ) (by rw [expect_send])) $$ [HcS2 HO HaS2]
  · isplitr; · iexact HR
    isplitl [HcS2]; · iexact HcS2
    isplitl [HO]; · iexact HO
    isplitr; · rw [MayWait_zero]; iempintro
    iexact HaS2
  iintro ⟨HO, HaS2, Hpay⟩
  ihave Hs2 := (Entails.of_eq (rest_send m ρ c 2)) $$ Hpay
  iapply (wp_collect m ρ K c (.inr (.inr 2)) (wpE_waitDma2_eq 𝒱₀ (c : Thread nD τ) none Set.univ) (by rw [expect_recv])) $$ [HcV2 HO HaV2]
  · isplitr; · iexact HR
    isplitl [HcV2]; · iexact HcV2
    isplitl [HO]; · iexact HO
    isplitr; · rw [MayWait_zero]; iempintro
    iexact HaV2
  iintro ⟨HO, HaV2, Hpay⟩
  ihave Hr2 := (Entails.of_eq (rest_recv m ρ c 2)) $$ Hpay
  unfold recvPay
  icases Hr2 with ⟨%r2, %hr2, Hr2⟩
  unfold slotPts
  iapply (wp_load 𝒱₀ (c : Thread nD τ) none Set.univ (m := rM) (slot_reads 2)) $$ Hr2; iintro Hr2
  rw [read_slot (c := c) hr2]
  -- the result
  iapply (wp_load 𝒱₀ (c : Thread nD τ) none Set.univ (m := oM) (Finset.subset_univ _)) $$ Hout; iintro Hout
  iapply (wp_store 𝒱₀ (c : Thread nD τ) none Set.univ (m := oM) (r := Rect.unit (s := S64x256) ![0, 0] S64x256.size inb_S64x256_S64x256_0_0) (Mk := Finset.univ) (Finset.subset_univ _)) $$ Hout; iintro Hout
  rw [write_out, wp_ret]
  -- the seven semaphores close
  imod (close m ρ K c (.inl 0)) $$ [HaB] with HzB
  · isplitr; · iexact HR
    iexact HaB
  imod (close m ρ K c (.inr (.inl 0))) $$ [HaS0] with HzS0
  · isplitr; · iexact HR
    iexact HaS0
  imod (close m ρ K c (.inr (.inl 1))) $$ [HaS1] with HzS1
  · isplitr; · iexact HR
    iexact HaS1
  imod (close m ρ K c (.inr (.inl 2))) $$ [HaS2] with HzS2
  · isplitr; · iexact HR
    iexact HaS2
  imod (close m ρ K c (.inr (.inr 0))) $$ [HaV0] with HzV0
  · isplitr; · iexact HR
    iexact HaV0
  imod (close m ρ K c (.inr (.inr 1))) $$ [HaV1] with HzV1
  · isplitr; · iexact HR
    iexact HaV1
  imod (close m ρ K c (.inr (.inr 2))) $$ [HaV2] with HzV2
  · isplitr; · iexact HR
    iexact HaV2
  imodintro
  iapply Hk
  unfold bodyPost Φ₁ scratch Dat.owesAt Pipeline.owesWithin
  rw [show (dats m ρ 0 c).owed t0_0.succ = 0 from rfl, bigSep_cells]
  isplitl [Hs0 Hs1 Hs2 Hrest Hp Hr0 Hr1 Hr2 HzB HzS0 HzS1 HzS2 HzV0 HzV1 HzV2]
  · isplitl [Hs0 Hs1 Hs2 Hrest Hp Hr0 Hr1 Hr2]
    · isplitl [Hs0 Hs1 Hs2 Hrest Hp]
      · iexists (part m ρ c)
        iapply (part_join m ρ c)
        isplitl [Hs0 Hs1 Hs2]
        · isplitl [Hs0]; · iexact Hs0
          isplitl [Hs1] <;> iassumption
        isplitl [Hrest]; · iexact Hrest
        iexact Hp
      · iapply (slots_join c)
        unfold slotPts
        isplitl [Hr0]; · iexists r0; iexact Hr0
        isplitl [Hr1]; · iexists r1; iexact Hr1
        iexists r2; iexact Hr2
    isplitl [HzB]; · iexact HzB
    isplitl [HzS0 HzS1 HzS2]
    · isplitl [HzS0]; · iexact HzS0
      isplitl [HzS1] <;> iassumption
    isplitl [HzV0]; · iexact HzV0
    isplitl [HzV1] <;> iassumption
  isplitl [HO]
  · iexists (insert (csem (.inr (.inr 2)), ()) (insert (csem (.inr (.inl 2)), ()) (insert (csem (.inr (.inr 0)), ()) (insert (csem (.inr (.inl 0)), ())
      (insert (csem (.inr (.inr 1)), ()) (insert (csem (.inr (.inl 1)), ()) (insert (csem (.inl 0), ()) W)))))))
    isplitr; · ipureintro; exact fun _ _ => Or.inl trivial
    iexact HO
  isplitl [Hx]; · iexists _; isplitr; · (ipureintro; rfl)
                  iexact Hx
  isplitl [Hrw]; · iexists _; isplitr; · (ipureintro; rfl)
                   iexact Hrw
  isplitl [Hid]; · iexists _; isplitr; · (ipureintro; rfl)
                   iexact Hid
  isplitl [Hew]; · iexists _; isplitr; · (ipureintro; rfl)
                   iexact Hew
  isplitl [Hsw]; · iexists _; isplitr; · (ipureintro; rfl)
                   iexact Hsw
  iexists _; isplitr; · (ipureintro; rfl)
  iexact Hout

/-- An input window's buffer holds its array's block when the body starts. -/
theorem before_in (c : Dev nD) (d0 d1 d2 d3 d4) :
    (dats m ρ 0 c).before (0 : Fin 6) t0_0 d0 = xs m ρ c ∧ (dats m ρ 0 c).before (1 : Fin 6) t0_0 d1 = rws m ρ c
      ∧ (dats m ρ 0 c).before (2 : Fin 6) t0_0 d2 = ids m ρ c ∧ (dats m ρ 0 c).before (3 : Fin 6) t0_0 d3 = ews m ρ c
      ∧ (dats m ρ 0 c).before (4 : Fin 6) t0_0 d4 = sws m ρ c := by
  refine ⟨?_, ?_, ?_, ?_, ?_⟩ <;> (unfold Dat.before; rw [if_pos (by rfl)]; rfl)

/-- What the pipeline hands the body at its one step. -/
def stepPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))

/-- That is what the body starts from. -/
theorem stepPre_body (c : Dev nD) : stepPre m ρ c ⊢ iprop(∃ K, bodyPre m ρ K c) := by
  unfold stepPre Φ₀ start bodyPre
  iintro ⟨⟨⟨⟨%K, HR, Hl⟩, Hc, Hlev⟩, Hs⟩, Ho, ⟨%d0, H0⟩, ⟨%d1, H1⟩, ⟨%d2, H2⟩, ⟨%d3, H3⟩, ⟨%d4, H4⟩, H5⟩
  obtain ⟨e0, e1, e2, e3, e4⟩ := before_in m ρ c d0 d1 d2 d3 d4
  rw [e0, e1, e2, e3, e4]
  iexists K
  isplitl [HR Hl Hc Hlev Hs]
  · isplitl [HR]; · iexact HR
    isplitl [Hl]; · iexact Hl
    isplitl [Hc]; · iexact Hc
    isplitl [Hlev] <;> iassumption
  isplitl [Ho]; · iexact Ho
  isplitl [H0]; · iexact H0
  isplitl [H1]; · iexact H1
  isplitl [H2]; · iexact H2
  isplitl [H3]; · iexact H3
  isplitl [H4]; · iexact H4
  iexact H5

set_option maxRecDepth 4000 in
/-- The body as the pipeline's one step. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show stepPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3) (fun _ => bodyPost m ρ c)
  iintro H
  ihave H := (stepPre_body m ρ c) $$ H
  icases H with ⟨%K, H⟩
  iapply (sound_body m ρ K c fun _ => bodyPost m ρ c)
  isplitl [H]; · iexact H
  iintro H; iexact H

end Cert.KernelIdeal.Exchange

end
-- ==== Proof.KernelIdeal.Launch.lean ====
/- The launch: the semaphores' invariants are set up for all four devices at once, the duties dealt to the devices that pay
them and the credits to those that collect them, and the run of the whole program follows. -/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The six scoped semaphores are distinct and none of them is a staging one. -/
theorem ownSemFacts : Pipeline.OwnSemFacts cfg0.spec osem := by decide

/-- Every array is held whole. -/
theorem share_eq (c : Dev nD) (w : Fin cfg0.W) : (dats m ρ 0 c).share w = fullShare := by unfold Dat.share; split <;> rfl

/-! ## The semaphores and the duties, listed -/

/-- Different devices' semaphores differ, and so do one device's seven. -/
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All 28 semaphores of the exchange. -/
def allCells : Finset (GSem nD τ sig) := Finset.univ.map ⟨kcell, kcell_injective⟩

/-- A device's duties: per copy number, one at its barrier, one at its receive and one at its send semaphore. -/
abbrev dutyOf : Fin 3 × Fin 3 → SemLoc sig × Fin 3
  | (s, 0) => (.reg barS, s)
  | (s, 1) => (.dma (recvS s), 0)
  | (s, 2) => (.dma (sendS s), 0)
/-- Its nine duties are different. -/
theorem dutyOf_injective : Function.Injective dutyOf := by decide
/-- A duty of a given device, -/
abbrev tokOf (x : Dev nD × (Fin 3 × Fin 3)) : GSem nD τ sig × ℕ × Fin 3 := (((x.1 : Thread nD τ), (dutyOf x.2).1), 0, (dutyOf x.2).2)
/-- different from every other device's; -/
theorem tokOf_injective : Function.Injective tokOf := by
  rintro ⟨c, k⟩ ⟨c', k'⟩ h
  have h1 : c = c' := congrArg (fun g : GSem nD τ sig × ℕ × Fin 3 => g.1.1.1) h
  have h2 : k = k' := dutyOf_injective (congrArg (fun g : GSem nD τ sig × ℕ × Fin 3 => (g.1.2, g.2.2)) h)
  rw [h1, h2]
/-- all 36 of them. -/
def allToks : Finset (GSem nD τ sig × ℕ × Fin 3) := Finset.univ.map ⟨tokOf, tokOf_injective⟩

/-- What the ledgers hold at launch. -/
def u₀ : UU :=
  (initOf (Pipeline.cells cfgs cellOf_inj) (Pipeline.launchToks cfgs cellOf_inj), initOf allCells allToks)

/-- The duties at device `c`'s own semaphores. -/
def toks (c : Dev nD) (s : Fin 3) : sProp 𝕄 :=
  iprop(dutyTok ER (barCell c) 0 s ∗ dutyTok ER (recvCell s c) 0 0 ∗ dutyTok ER (sendCell s c) 0 0)

/-- What the launch deals device `c`. -/
def dealt (c : Dev nD) : sProp 𝕄 :=
  iprop((bigSep Finset.univ fun k : CI => roundState ER (plan m ρ) (kcell (c, k)) 0)
    ∗ (bigSep Finset.univ fun k : CI => iprop(atPos ER (kcell (c, k)) 0 ∅ 0 ∗ reached ER (kcell (c, k)) 0)) ∗ bigSep Finset.univ fun s => toks c s)

/-- What the step taken for all devices makes of it. -/
def ready (c : Dev nD) : sProp 𝕄 := iprop(∃ K, records m ρ K ∗ linear c)

/-- The exchange's ledger is dealt out to the devices. -/
theorem deal : BI.own (ER (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun s => toks c s := by
    unfold allToks; rw [bigSep_map, bigSep_univ_prod]
    refine bigSep_congr fun c _ => ?_
    rw [bigSep_univ_prod]
    refine bigSep_congr fun s _ => ?_
    rw [bigSep_copies]; rfl
  iintro HX
  imod (Rounds.fund ER (plan m ρ) allCells allToks) $$ HX with ⟨Hst, Hr, Hat, Htok⟩
  imodintro
  ihave Hst := (Entails.of_eq (hX fun g => roundState ER (plan m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

/-! ## The counters -/

/-- Three send and three receive semaphores are the kernel's own, -/
theorem ownSems0_eq (c : Dev nD) : (Pipeline.ownSems0 (Ix := Unit) (Name := ℕ) (U := UU) (Lvl := ℕ) (Val := Elt F) (τ := τ) osem c : sProp 𝕄)
    = bigSep Finset.univ fun k : Fin 3 ⊕ Fin 3 => semVal (kcell (c, .inr k)) 0 := by
  rw [Pipeline.ownSems0_eq_of_list c osem [.inl 0, .inl 1, .inl 2, .inr 0, .inr 1, .inr 2] (by decide) (by decide),
    bigSep_univ_eq_bigSepL [.inl 0, .inl 1, .inl 2, .inr 0, .inr 1, .inr 2] (by decide) (by decide)]; rfl
/-- and the barrier is the one that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are the seven of the exchange. -/
theorem sems_eq (c : Dev nD) : (bigSep Finset.univ fun k : CI => semVal (kcell (c, k)) 0 : sProp 𝕄)
    = iprop(unscopedSems0 c ∗ Pipeline.ownSems0 (Ix := Unit) (Name := ℕ) (U := UU) (Lvl := ℕ) (Val := Elt F) (τ := τ) osem c) := by
  rw [ownSems0_eq, unscopedSems0_eq, bigSep_univ_sum, bigSep_univ_eq_bigSepL (I := Fin 1) [0] (by decide) (by decide)]; rfl

/-! ## The step for all devices -/

/-- A device's counters, at zero, go under its seven invariants. -/
theorem device_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (plan m ρ) κ (kcell (c, k))))
          ∗ (bigSep Finset.univ fun k => iprop(atPos ER (kcell (c, k)) 0 ∅ 0 ∗ reached ER (kcell (c, k)) 0)) ∗ bigSep Finset.univ fun s => toks c s) := by
  unfold dealt
  iintro ⟨Hos, Hus, Hst, Hat, Htok⟩
  ihave Hv := (Entails.of_eq (sems_eq (F := F) c).symm) $$ [Hos Hus]
  · isplitl [Hus] <;> iassumption
  imod (show iprop((bigSep Finset.univ fun k : CI => semVal (kcell (c, k)) 0) ∗ bigSep Finset.univ fun k : CI => roundState ER (plan m ρ) (kcell (c, k)) 0)
      ⊢ (|={Set.univ}=> bigSep Finset.univ fun k => iprop(∃ κ : ℕ, cellInv ER (plan m ρ) κ (kcell (c, k))) : sProp 𝕄) from by
        rw [← bigSep_sep']
        exact (bigSep_mono fun k _ => (Rounds.body_intro ER (plan m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties dealt out: copy `s`'s barrier and receive duties go to the device whose copy it is. -/
theorem deal_round : (bigSep Finset.univ fun c : Dev nD => bigSep Finset.univ fun s => (toks c s : sProp 𝕄))
    = bigSep Finset.univ fun c : Dev nD => bigSep Finset.univ fun s => payToks c s := by
  rw [bigSep_univ_comm, bigSep_univ_comm (fun (c : Dev nD) (s : Fin 3) => (payToks c s : sProp 𝕄))]
  unfold toks payToks
  simp only [bigSep_sep']
  rw [bigSep_univ_equiv Fin.revPerm (fun s : Fin 3 => bigSep Finset.univ fun c : Dev nD => (dutyTok ER (barCell c) 0 s : sProp 𝕄)),
    bigSep_congr (s := Finset.univ) (fun (s : Fin 3) _ => bigSep_univ_equiv (turn s) (fun c : Dev nD => (dutyTok ER (barCell c) 0 (Fin.revPerm s) : sProp 𝕄))),
    bigSep_congr (s := Finset.univ) (fun (s : Fin 3) _ => bigSep_univ_equiv (turn s) (fun c : Dev nD => (dutyTok ER (recvCell s c) 0 0 : sProp 𝕄)))]
  rfl

/-- With all invariants in place, every device gets the facts on all of them, its own places and the duties it pays. -/
theorem regroup :
    (bigSep Finset.univ fun c : Dev nD => iprop((bigSep Finset.univ fun k => iprop(∃ κ : ℕ, cellInv ER (plan m ρ) κ (kcell (c, k))))
          ∗ (bigSep Finset.univ fun k => iprop(atPos ER (kcell (c, k)) 0 ∅ 0 ∗ reached ER (kcell (c, k)) 0)) ∗ bigSep Finset.univ fun s => toks c s) : sProp 𝕄)
      ⊢ bigSep Finset.univ (ready m ρ) := by
  rw [bigSep_sep', bigSep_sep', ← bigSep_univ_prod (fun ck : Dev nD × CI => iprop(∃ κ : ℕ, cellInv ER (plan m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), deal_round]
  iintro ⟨HI, ⟨Hat, #HR⟩, Htok⟩
  ihave HK := (BI.bigSep_exists_pi Finset.univ (fun (ck : Dev nD × CI) (κ : ℕ) => (cellInv ER (plan m ρ) κ (kcell ck) : sProp 𝕄))) $$ HI
  icases HK with ⟨%K, #HI⟩
  iapply (bigSep_with_persistent (R := records m ρ K) (Φ := fun c => linear c) fun c _ => show iprop(records m ρ K ∗ linear c) ⊢ ready m ρ c from by
    unfold ready; iintro H; iexists K; iexact H)
  isplitr
  · unfold records; isplitl; · iexact HI
    iexact HR
  · unfold linear; rw [bigSep_sep']
    isplitl [Hat]; · iexact Hat
    iexact Htok

/-- The two steps in a row, for all devices. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ready m ρ) :=
  ((bigSep_mono fun c _ => device_alloc m ρ c).trans (bigSep_fupd _ _)).trans (BI.fupd_mono (regroup m ρ))

/-! ## The credits -/

/-- Two barriers are the same only on the same device, -/
theorem bar_eq_iff {a b : Dev nD} : barCell a = barCell b ↔ a = b :=
  ⟨fun h => congrArg (fun g : GSem nD τ sig => g.1.1) h, fun h => h ▸ rfl⟩
/-- two receive semaphores only for the same slot of the same device, -/
theorem recv_eq_iff {s t : Fin 3} {a b : Dev nD} : recvCell s a = recvCell t b ↔ s = t ∧ a = b :=
  ⟨fun h => ⟨by simpa using csem_injective (a₁ := .inr (.inr s)) (a₂ := .inr (.inr t)) (congrArg Prod.snd h),
    congrArg (fun g : GSem nD τ sig => g.1.1) h⟩, fun h => by rw [h.1, h.2]⟩
/-- and a barrier is no receive semaphore. -/
theorem bar_ne_recv {s : Fin 3} {a b : Dev nD} : barCell a ≠ recvCell s b :=
  fun h => by cases congrArg Prod.snd h

/-- What device `d` owes the barrier of device `c`, -/
theorem owed_bar (d c : Dev nD) :
    O₀ d (barCell c) () = (if c = peer 2 d then 1 else 0) + (if c = peer 1 d then 1 else 0) + (if c = peer 0 d then 1 else 0) := by
  unfold O₀ oweB1 oweB2 oweCopies owe02 owe2
  simp only [Pi.add_apply, Finsupp.add_apply]
  rw [tallyAt_ne_cell bar_ne_recv, tallyAt_ne_cell bar_ne_recv, tallyAt_ne_cell bar_ne_recv]
  simp only [tallyAt_apply, bar_eq_iff, and_true, Finsupp.zero_apply, Nat.zero_add]
/-- and its receive semaphore `s`. -/
theorem owed_recv (s : Fin 3) (d c : Dev nD) : O₀ d (recvCell s c) () = if c = peer s d then N else 0 := by
  unfold O₀ oweB1 oweB2 oweCopies owe02 owe2
  simp only [Pi.add_apply, Finsupp.add_apply]
  rw [tallyAt_ne_cell bar_ne_recv.symm, tallyAt_ne_cell bar_ne_recv.symm, tallyAt_ne_cell bar_ne_recv.symm]
  simp only [tallyAt_apply, recv_eq_iff, and_true, Finsupp.zero_apply, Nat.add_zero]
  fin_cases s <;> simp

/-- At launch three units in all are owed to a barrier, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

/-- and one slot's bytes to a receive semaphore. -/
theorem launch_recv (s : Fin 3) (c : Dev nD) :
    tallyOn (recvCell s c) (launchCredit (Pipeline.owing O₀) 0 (recvCell s c)) = (tallyAt (recvCell s c) () N : CellTallies nD τ sig Unit) := by
  unfold tallyAt; refine congrArg _ (Finsupp.ext fun u => ?_); cases u
  have h (d : Dev nD) : c = peer s d ↔ d = peer s.rev c :=
    ⟨fun h => by rw [h, peer_rev_peer], fun h => by rw [h, peer_peer_rev]⟩
  rw [Pipeline.launchCredit_owing, Finsupp.single_eq_same, Finset.sum_congr rfl fun d _ => owed_recv s d c]
  simp only [h]
  rw [Finset.sum_ite_eq' Finset.univ (peer s.rev c) fun _ => N, if_pos (Finset.mem_univ _)]

/-- The semaphores a device collects launch credits at. -/
def paid : Fin 1 ⊕ Fin 3 → SemLoc sig
  | .inl _ => .reg barS
  | .inr s => .dma (recvS s)
/-- They are different. -/
theorem paid_injective : Function.Injective paid := by decide

/-- So the launch gives a device the credits it will collect. -/
theorem creds (c : Dev nD) : (Pipeline.launchCred O₀ c : sProp 𝕄) ⊢ credits c := by
  unfold Pipeline.launchCred
  refine Entails.trans (bigSep_subset (Finset.subset_univ (Finset.univ.map ⟨paid, paid_injective⟩))) (Entails.of_eq ?_)
  rw [bigSep_map, bigSep_univ_sum, bigSep_univ_eq_bigSepL (I := Fin 1) [0] (by decide) (by decide)]
  unfold credits
  rw [← launch_bar c, bigSep_congr (s := Finset.univ) (fun (s : Fin 3) _ => congrArg cred (launch_recv s c).symm)]
  rfl

/-! ## Into the kernel and out of it -/

/-- What the launch leaves a device is what its body starts from, the buffers apart; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m ρ c)
      ⊢ |={Set.univ}=> iprop(start m ρ c ∗ emp) := by
  iintro ⟨-, Hlev, Hcr, -, HG⟩
  ihave Hc := (creds (F := F) c) $$ Hcr
  imodintro
  unfold start ready
  isplitl
  · isplitl [HG]; · iexact HG
    isplitl [Hc] <;> iassumption
  · iempintro

/-- with the scratch buffers the call brings, it is all the body starts from; -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- and what the body ends with is what the call has to give back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems_eq]
  iintro ⟨Hr, HzB, Hz⟩
  isplitl [HzB]; · iexact HzB
  isplitl [Hz] <;> iassumption

/-- The waits on the staging semaphores are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The array of window `w` after the run. -/
def finalA (c : Dev nD) (w : Fin cfg0.W) : Buf (Elt F) ((cfg0.win w).arr.view.loc (c : Thread nD τ)) := (dats m ρ 0 c).arrAt w cfg0.N

/-- Every array is as computed, on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, every fair execution of the four devices' programs ends, with each device's
    arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange

end
-- ==== Proof.KernelIdeal.Outcome.lean ====
/- What the run leaves behind: the five argument arrays as they were, each device's result array at the exchange's
result for it, and every semaphore counter at zero. -/
module

public import proofs.«01_k».proof.Proof.KernelIdeal.Launch

@[expose] public section

noncomputable section

namespace Cert.KernelIdeal.Exchange

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-! ## Each window covers its whole array -/

/-- The staged tokens are the whole token array. -/
theorem xs_eq (c : Dev nD) : xs m ρ c = m ((c : Thread nD τ).loc main_arg0) :=
  Memref.read_access_unit_zero (Elt F) main_arg0 (funext fun a => by fin_cases a <;> decide) (fun a => by fin_cases a <;> decide) _

/-- The staged router weights are the whole router array. -/
theorem rws_eq (c : Dev nD) : rws m ρ c = m ((c : Thread nD τ).loc main_arg1) :=
  Memref.read_access_unit_zero (Elt F) main_arg1 (funext fun a => by fin_cases a <;> decide) (fun a => by fin_cases a <;> decide) _

/-- The staged choices of expert are the whole array of them. -/
theorem ids_eq (c : Dev nD) : ids m ρ c = m ((c : Thread nD τ).loc main_arg2) :=
  Memref.read_access_unit_zero (Elt F) main_arg2 (funext fun a => by fin_cases a <;> decide) (fun a => by fin_cases a <;> decide) _

/-- The staged experts are all the device's experts. -/
theorem ews_eq (c : Dev nD) : ews m ρ c = m ((c : Thread nD τ).loc main_arg3) :=
  Memref.read_access_unit_zero (Elt F) main_arg3 (funext fun a => by fin_cases a <;> decide) (fun a => by fin_cases a <;> decide) _

/-- The staged shared expert is the whole shared array. -/
theorem sws_eq (c : Dev nD) : sws m ρ c = m ((c : Thread nD τ).loc main_arg4) :=
  Memref.read_access_unit_zero (Elt F) main_arg4 (funext fun a => by fin_cases a <;> decide) (fun a => by fin_cases a <;> decide) _

/-- An array the kernel only reads ends as it began. -/
theorem finalA_in (c : Dev nD) (w : Fin cfg0.W) (hw : (cfg0.win w).isOut = false) :
    finalA m ρ c w = (s₀ m ρ).mem ((cfg0.win w).arr.view.loc (c : Thread nD τ)) :=
  (dats m ρ 0 c).arrAt_in w hw _

/-- The result array ends at the exchange's result: its one block is written back once, and is all of it. -/
theorem finalA_out (c : Dev nD) : finalA m ρ c (5 : Fin 6) = outAt m ρ c := by
  have h : (win0_5.blk (0 : Fin 1)).view.read (Elt F) (finalA m ρ c (5 : Fin 6)) = outAt m ρ c := by
    unfold finalA
    rw [show cfg0.N = ((0 : Fin 1) : Fin cfg0.N).val + 1 from rfl, (dats m ρ 0 c).arrAt_succ (5 : Fin 6) (0 : Fin 1),
      show (cfg0.win (5 : Fin 6)).flush (0 : Fin 1) = true from by decide, if_pos rfl]
    exact View.read_write_univ _ _
  exact (Memref.read_access_unit_zero (Elt F) main_v1 (funext fun a => by fin_cases a <;> decide)
    (fun a => by fin_cases a <;> decide) (finalA m ρ c (5 : Fin 6))).symm.trans h

/-- Every execution ends with the arguments unchanged, the results in place and the counters at zero. -/
theorem run_out : θ_run defs (onTc (τ := τ) (main (F := F))) ⟨m, fun _ => 0, ρ⟩ fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0 :=
  (θ_run defs _ _).mono (fun r h => ⟨fun c =>
    ⟨(h.1 c (5 : Fin 6)).trans (finalA_out m ρ c),
     (h.1 c (0 : Fin 6)).trans (finalA_in m ρ c (0 : Fin 6) rfl),
     (h.1 c (1 : Fin 6)).trans (finalA_in m ρ c (1 : Fin 6) rfl),
     (h.1 c (2 : Fin 6)).trans (finalA_in m ρ c (2 : Fin 6) rfl),
     (h.1 c (3 : Fin 6)).trans (finalA_in m ρ c (3 : Fin 6) rfl),
     (h.1 c (4 : Fin 6)).trans (finalA_in m ρ c (4 : Fin 6) rfl)⟩, h.2⟩) (run_main m ρ)

end Cert.KernelIdeal.Exchange

end
-- ==== Proof.Value.Layer.lean ====
/- The layer on extended reals, one entry at a time: the router's scores and probabilities, the shared product, and the
routed product of a token with one expert. Both programs are read against these. -/
module

public import Idealize.ShloMosaic.Lib.Pointwise

@[expose] public section

noncomputable section

namespace Cert.Layer

open Idealize.ShloMosaic

/-- 256 tokens of 128 features. -/
abbrev Tokens : Type := FVec Ideal ⟨2, ![256, 128]⟩ .f32
/-- The router: a column of 128 weights per expert. -/
abbrev Router : Type := FVec Ideal ⟨2, ![128, 8]⟩ .f32
/-- The expert each token chose, as a word. -/
abbrev Choices : Type := IVec ⟨2, ![256, 1]⟩ 32
/-- All eight experts. -/
abbrev Experts : Type := FVec Ideal ⟨3, ![8, 128, 256]⟩ .f32
/-- The shared expert. -/
abbrev Shared : Type := FVec Ideal ⟨2, ![128, 256]⟩ .f32

variable (x : Tokens) (rw : Router)

/-- Token `i`'s score for expert `e`. -/
def score (i : Fin 256) (e : Fin 8) : EReal := ∑ k : Fin 128, x (ix2 i k) * rw (ix2 k e)

/-- Token `i`'s largest score; the fold starts from minus infinity's pattern. -/
def top (i : Fin 256) : EReal := Finset.univ.fold max (Ideal.ofBits FTy.f32 0xFF800000#32) (score x rw i)

/-- Token `i`'s probability of expert `e`: the softmax of its scores, shifted by the largest. -/
def prob (i : Fin 256) (e : Fin 8) : EReal :=
  Ideal.div (Ideal.exp (score x rw i e - top x rw i)) (∑ e' : Fin 8, Ideal.exp (score x rw i e' - top x rw i))

/-- Entry `o` of the shared expert's product with token `i`. -/
def sharedAt (sw : Shared) (i o : Fin 256) : EReal := ∑ k : Fin 128, x (ix2 i k) * sw (ix2 k o)

/-- Entry `o` of expert `e`'s product with token `i`, weighted by the token's probability of that expert. -/
def routedAt (W : Experts) (i : Fin 256) (e : Fin 8) (o : Fin 256) : EReal :=
  prob x rw i e * ∑ k : Fin 128, x (ix2 i k) * W (ix3 e k o)

/-- The words of the choices name experts: `e i` is token `i`'s. -/
def Chose (ids : Choices) (e : Fin 256 → Fin 8) : Prop := ∀ i : Fin 256, ids (ix2 i (0 : Fin 1)) = BitVec.ofNat 32 (e i).val

end Cert.Layer

end
-- ==== Proof.Value.Kernel.lean ====
/- The kernel's result, entry by entry: what each device's experts contribute to a token, and the sum of the four
contributions that reach the device owning the token. -/
module

public import proofs.«01_k».proof.Proof.KernelIdeal.Protocol
public import proofs.«01_k».proof.Proof.Value.Layer
public import Idealize.ShloMosaic.Lib.Layout

@[expose] public section

noncomputable section

namespace Cert.KernelIdeal.Entries

open Idealize.ShloMosaic
open Idealize.ShloMosaic.TcCoe
open Cert.KernelIdeal Cert.KernelIdeal.Gen Cert.KernelIdeal.Exchange
open Cert.Layer

/-! ## Small words -/

/-- The words of two expert numbers agree when the numbers do. -/
theorem word_eq (a b : Fin 8) : IntOp.cmpi .eq (BitVec.ofNat 32 a.val) (BitVec.ofNat 32 b.val) = if a = b then 1#1 else 0#1 := by
  revert a b; decide +kernel

/-- Device `c`'s first expert, as the kernel computes its number. -/
theorem first_word (c : Dev nD) : Scalar.addi (Scalar.muli 2#32 (myW c)) 0#32 = BitVec.ofNat 32 (2 * c.val) := by
  revert c; decide +kernel

/-- Device `c`'s second expert. -/
theorem second_word (c : Dev nD) : Scalar.addi (Scalar.muli 2#32 (myW c)) 1#32 = BitVec.ofNat 32 (2 * c.val + 1) := by
  revert c; decide +kernel

/-- A choice is either kept whole or replaced by zero. -/
theorem keep_eq (p : Prop) [Decidable p] (a : EReal) :
    Scalar.select (if p then 1#1 else 0#1) a 0 = if p then a else 0 := by
  split <;> rfl

/-! ## What a device contributes -/

/-- The probability of the chosen expert: the sum over the experts with all the others masked. -/
theorem chosen_at (x : Tokens) (rw : Router) (ids : Choices) (e : Fin 256 → Fin 8) (he : Chose ids e) (i : Fin 256) :
    k0_pay4 (F := Ideal) x rw ids (ix2 i (0 : Fin 1)) = prob x rw i (e i) := by
  have h : k0_pay4 (F := Ideal) x rw ids (ix2 i (0 : Fin 1))
      = ∑ b : Fin 8, Scalar.select (IntOp.cmpi .eq (BitVec.ofNat 32 b.val) (ids (ix2 i (0 : Fin 1)))) (prob x rw i b) 0 := by
    unfold prob top score
    pointwise [k0_pay4, k0_pay2, k0_pay3]
  rw [h, he i]
  simp only [word_eq, keep_eq]
  exact (Finset.sum_ite_eq' Finset.univ (e i) (prob x rw i)).trans (if_pos (Finset.mem_univ _))

/-- One device's contribution, from its two experts' weights `w0` and `w1`. -/
theorem contribution_at (c : Dev nD) (x : Tokens) (rw : Router) (ids : Choices) (e : Fin 256 → Fin 8) (he : Chose ids e) (W : Experts)
    (w0 w1 : Vec Ideal S1x128x256 .f32) (a b : Fin 8) (ha : a.val = 2 * c.val) (hb : b.val = 2 * c.val + 1)
    (h0 : ∀ k o, w0 (ix3 (0 : Fin 1) k o) = W (ix3 a k o)) (h1 : ∀ k o, w1 (ix3 (0 : Fin 1) k o) = W (ix3 b k o)) (i o : Fin 256) :
    k0_pay7 (F := Ideal) (myW c) (k0_pay2 x) (k0_pay3 (F := Ideal) ids) (k0_pay4 x rw ids) (k0_pay5 (F := Ideal)) (k0_pay6 (myW c)) w0 w1 (ix2 i o)
      = (if e i = a then routedAt x rw W i (e i) o else 0) + (if e i = b then routedAt x rw W i (e i) o else 0) := by
  have h : k0_pay7 (F := Ideal) (myW c) (k0_pay2 x) (k0_pay3 (F := Ideal) ids) (k0_pay4 x rw ids) (k0_pay5 (F := Ideal)) (k0_pay6 (myW c)) w0 w1 (ix2 i o)
      = Scalar.select (IntOp.cmpi .eq (ids (ix2 i (0 : Fin 1))) (Scalar.addi (Scalar.muli 2#32 (myW c)) 0#32))
          (k0_pay4 (F := Ideal) x rw ids (ix2 i (0 : Fin 1)) * ∑ k : Fin 128, x (ix2 i k) * w0 (ix3 (0 : Fin 1) k o)) 0
        + Scalar.select (IntOp.cmpi .eq (ids (ix2 i (0 : Fin 1))) (Scalar.addi (Scalar.muli 2#32 (myW c)) 1#32))
          (k0_pay4 (F := Ideal) x rw ids (ix2 i (0 : Fin 1)) * ∑ k : Fin 128, x (ix2 i k) * w1 (ix3 (0 : Fin 1) k o)) 0 := by
    generalize k0_pay4 (F := Ideal) x rw ids = p
    pointwise [k0_pay7, k0_pay5, k0_pay6, k0_pay2, k0_pay3]
  rw [h, chosen_at x rw ids e he i, he i, first_word, second_word, ← hb, ← ha, word_eq, word_eq, keep_eq, keep_eq]
  simp only [h0, h1]
  unfold routedAt
  by_cases hea : e i = a
  · rw [if_pos hea, if_pos hea, hea]
    have hab : ¬ a = b := fun hab => by rw [hab] at ha; omega
    rw [if_neg hab, if_neg hab]
  · by_cases heb : e i = b
    · rw [if_neg hea, if_neg hea, if_pos heb, if_pos heb, heb]
    · rw [if_neg hea, if_neg hea, if_neg heb, if_neg heb]

/-- The two terms of a device are one, present when the chosen expert is one of the device's two. -/
theorem two_terms (c : Dev nD) (f a b : Fin 8) (ha : a.val = 2 * c.val) (hb : b.val = 2 * c.val + 1) (t : EReal) :
    (if f = a then t else 0) + (if f = b then t else 0) = if f.val / 2 = c.val then t else 0 := by
  by_cases hfa : f = a
  · have hfb : ¬ f = b := fun h => by have := congrArg Fin.val (hfa.symm.trans h); omega
    rw [if_pos hfa, if_neg hfb, if_pos (by rw [hfa, ha]; omega), add_zero]
  · by_cases hfb : f = b
    · rw [if_neg hfa, if_pos hfb, if_pos (by rw [hfb, hb]; omega), zero_add]
    · have h1 : f.val ≠ a.val := fun h => hfa (Fin.ext h)
      have h2 : f.val ≠ b.val := fun h => hfb (Fin.ext h)
      rw [if_neg hfa, if_neg hfb, if_neg (by omega), add_zero]

/-- The four devices between them hold the chosen expert once: the result's own device and the three it hears from. -/
theorem four_terms (c q : Fin 4) (t : EReal) :
    (((if q.val = c.val then t else 0) + (if q.val = (peer (1 : Fin 3).rev c).val then t else 0)) + (if q.val = (peer (0 : Fin 3).rev c).val then t else 0))
      + (if q.val = (peer (2 : Fin 3).rev c).val then t else 0) = t := by
  fin_cases c <;> fin_cases q <;> simp [peer]

/-! ## Rows on the move -/

variable (m : (ℓ : Loc nD τ sig) → Buf (Elt Ideal) ℓ) (ρ : Dev nD → PrngReg)

/-- Row `r` of device `c`'s tokens. -/
def row (c : Dev nD) (r : Fin 64) : Fin 256 := ⟨c.val * 64 + r.val, by have h : c.val < 4 := c.isLt; have := r.isLt; omega⟩

/-- Copy `s` starts at the first row of the device it goes to. -/
theorem off1_eq (c : Dev nD) (s : Fin 3) : k0_off1 c (BitVec.ofNat 32 (1 + s.val)) = ![(peer s c).val * 64, 0] := by
  revert c s; decide +kernel
/-- A device's own tokens start at its first row, -/
theorem off2_eq (c : Dev nD) : k0_off2 c = ![c.val * 64, 0] := by revert c; decide +kernel
/-- and so do its own rows of the contribution. -/
theorem off3_eq (c : Dev nD) : k0_off3 c = ![c.val * 64, 0] := by revert c; decide +kernel

/-- What copy `s` of device `c` sends are the rows of the device it goes to. -/
theorem sent_at (c : Dev nD) (s : Fin 3) (r : Fin 64) (o : Fin 256) :
    sent m ρ c s (ix2 r o) = part m ρ c (ix2 (row (peer s c) r) o) := by
  show part m ρ c _ = _
  refine congrArg (part m ρ c) (funext fun a => Fin.ext ?_)
  have h := off1_eq c s
  fin_cases a
  · show k0_off1 c (BitVec.ofNat 32 (1 + s.val)) 0 + 1 * r.val = (peer s c).val * 64 + r.val
    rw [h]; show (peer s c).val * 64 + 1 * r.val = _; omega
  · show k0_off1 c (BitVec.ofNat 32 (1 + s.val)) 1 + 1 * o.val = o.val
    rw [h]; show 0 + 1 * o.val = _; omega

/-- What lands in slot `s` of device `c` are the rows of `c` as their sender computed them. -/
theorem landed_at (c : Dev nD) (s : Fin 3) (r : Fin 64) (o : Fin 256) :
    landed m ρ c s (ix2 r o) = part m ρ (peer s.rev c) (ix2 (row c r) o) := by
  unfold landed
  rw [sent_at, peer_peer_rev]

/-- Reading a landing slot at its one plane. -/
theorem lift_at (v : Vec Ideal S64x256 .bf16) (r : Fin 64) (o : Fin 256) : lift v (ix3 (0 : Fin 1) r o) = v (ix2 r o) := by
  delta lift
  pointwise

/-- The device's own tokens. -/
theorem own_token (c : Dev nD) (r : Fin 64) (k : Fin 128) :
    xM.view.readAt (Elt Ideal) (xR c).toLoadRect (xs m ρ c) (ix2 r k) = xs m ρ c (ix2 (row c r) k) := by
  refine congrArg (xs m ρ c) (funext fun a => Fin.ext ?_)
  have h := off2_eq c
  fin_cases a
  · show k0_off2 c 0 + 1 * r.val = c.val * 64 + r.val
    rw [h]; show c.val * 64 + 1 * r.val = _; omega
  · show k0_off2 c 1 + 1 * k.val = k.val
    rw [h]; show 0 + 1 * k.val = _; omega

/-- The device's own contribution to its tokens. -/
theorem own_part (c : Dev nD) (r : Fin 64) (o : Fin 256) :
    pM.view.readAt (Elt Ideal) (ownR c).toLoadRect (part m ρ c) (ix2 r o) = part m ρ c (ix2 (row c r) o) := by
  refine congrArg (part m ρ c) (funext fun a => Fin.ext ?_)
  have h := off3_eq c
  fin_cases a
  · show k0_off3 c 0 + 1 * r.val = c.val * 64 + r.val
    rw [h]; show c.val * 64 + 1 * r.val = _; omega
  · show k0_off3 c 1 + 1 * o.val = o.val
    rw [h]; show 0 + 1 * o.val = _; omega

/-- The device's first expert, as loaded. -/
theorem first_expert (c : Dev nD) (k : Fin 128) (o : Fin 256) :
    ewM.view.readAt (Elt Ideal) ewR0.toLoadRect (ews m ρ c) (ix3 (0 : Fin 1) k o) = ews m ρ c (ix3 (0 : Fin 2) k o) := by
  refine congrArg (ews m ρ c) (funext fun a => Fin.ext ?_)
  fin_cases a
  · rfl
  · show 0 + 1 * k.val = k.val; omega
  · show 0 + 1 * o.val = o.val; omega

/-- Its second. -/
theorem second_expert (c : Dev nD) (k : Fin 128) (o : Fin 256) :
    ewM.view.readAt (Elt Ideal) ewR1.toLoadRect (ews m ρ c) (ix3 (0 : Fin 1) k o) = ews m ρ c (ix3 (1 : Fin 2) k o) := by
  refine congrArg (ews m ρ c) (funext fun a => Fin.ext ?_)
  fin_cases a
  · rfl
  · show 0 + 1 * k.val = k.val; omega
  · show 0 + 1 * o.val = o.val; omega

/-! ## The result -/

/-- What every device was launched with: the whole tokens, router, choices and shared expert, and its own two experts. -/
structure Launched (x : Tokens) (rw : Router) (ids : Choices) (W : Experts) (sw : Shared) : Prop where
  tokens : ∀ c, xs m ρ c = x
  router : ∀ c, rws m ρ c = rw
  choices : ∀ c, Exchange.ids m ρ c = ids
  experts : ∀ c, ews m ρ c = Layout.block ⟨3, ![2, 128, 256]⟩ ⟨3, ![8, 128, 256]⟩ 0 4 c W
  shared : ∀ c, sws m ρ c = sw

variable {m ρ}
variable {x : Tokens} {rw : Router} {ids : Choices} {W : Experts} {sw : Shared} {e : Fin 256 → Fin 8}

/-- Plane `j` of device `c`'s block of the experts is expert `2 c + j`. -/
theorem block_at (c : Fin 4) (j : Fin 2) (a : Fin 8) (ha : a.val = 2 * c.val + j.val) (k : Fin 128) (o : Fin 256) :
    Layout.block ⟨3, ![2, 128, 256]⟩ ⟨3, ![8, 128, 256]⟩ 0 4 c W (by decide) (ix3 j k o) = W (ix3 a k o) := by
  refine congrArg W (funext fun b => Fin.ext ?_)
  rw [Layout.Tiles.idx_val]
  fin_cases b
  · show c.val * 2 + j.val = a.val; omega
  · rfl
  · rfl

/-- Device `c`'s contribution to a token: the token's routed product if `c` holds the chosen expert, else nothing. -/
theorem part_at (h : Launched m ρ x rw ids W sw) (he : Chose ids e) (c : Dev nD) (i o : Fin 256) :
    part m ρ c (ix2 i o) = if (e i).val / 2 = c.val then routedAt x rw W i (e i) o else 0 := by
  have hc : c.val < 4 := c.isLt
  have hW0 : ∀ k o, ewM.view.readAt (Elt Ideal) ewR0.toLoadRect (ews m ρ c) (ix3 (0 : Fin 1) k o)
      = W (ix3 (⟨2 * c.val, by omega⟩ : Fin 8) k o) := fun k o => by
    rw [first_expert, h.experts c]; exact block_at c 0 ⟨2 * c.val, by omega⟩ rfl k o
  have hW1 : ∀ k o, ewM.view.readAt (Elt Ideal) ewR1.toLoadRect (ews m ρ c) (ix3 (0 : Fin 1) k o)
      = W (ix3 (⟨2 * c.val + 1, by omega⟩ : Fin 8) k o) := fun k o => by
    rw [second_expert, h.experts c]; exact block_at c 1 ⟨2 * c.val + 1, by omega⟩ rfl k o
  unfold part
  rw [h.tokens c, h.router c, h.choices c]
  exact (contribution_at c x rw ids e he W _ _ _ _ rfl rfl hW0 hW1 i o).trans (two_terms c _ _ _ rfl rfl _)

/-- Entry `(r, o)` of device `c`'s result. -/
theorem outAt_at (h : Launched m ρ x rw ids W sw) (he : Chose ids e) (c : Dev nD) (r : Fin 64) (o : Fin 256) :
    outAt m ρ c (ix2 r o) = sharedAt x sw (row c r) o + routedAt x rw W (row c r) (e (row c r)) o := by
  have hsum : outAt m ρ c (ix2 r o)
      = (((sharedAt x sw (row c r) o + part m ρ c (ix2 (row c r) o)) + part m ρ (peer (1 : Fin 3).rev c) (ix2 (row c r) o))
          + part m ρ (peer (0 : Fin 3).rev c) (ix2 (row c r) o)) + part m ρ (peer (2 : Fin 3).rev c) (ix2 (row c r) o) := by
    rw [← landed_at, ← landed_at, ← landed_at, ← own_part, ← lift_at (landed m ρ c 1), ← lift_at (landed m ρ c 0),
      ← lift_at (landed m ρ c 2)]
    unfold sharedAt
    simp only [← h.tokens c, ← own_token, ← h.shared c]
    unfold outAt
    generalize lift (landed m ρ c 0) = l0
    generalize lift (landed m ρ c 1) = l1
    generalize lift (landed m ρ c 2) = l2
    generalize pM.view.readAt (Elt Ideal) (ownR c).toLoadRect (part m ρ c) = p
    generalize xM.view.readAt (Elt Ideal) (xR c).toLoadRect (xs m ρ c) = y
    pointwise [k0_pay1, k0_pay9, k0_pay8]
  have hq : (e (row c r)).val / 2 < 4 := by have := (e (row c r)).isLt; omega
  rw [hsum, part_at h he, part_at h he, part_at h he, part_at h he, add_assoc, add_assoc, add_assoc]
  refine congrArg (sharedAt x sw (row c r) o + ·) (Eq.trans ?_ (four_terms c ⟨_, hq⟩ _))
  rw [← add_assoc, ← add_assoc]

end Cert.KernelIdeal.Entries

end
-- ==== Proof.Value.Reference.lean ====
/- The reference's result, entry by entry: the shared product plus the routed product of the token with the expert it
chose, for choices that name experts. -/
module

public import proofs.«01_k».proof.Proof.Gen.ReferenceIdeal
public import proofs.«01_k».proof.Proof.Gen.ReferenceIdeal.Run
public import proofs.«01_k».proof.Proof.Value.Layer

@[expose] public section

noncomputable section

namespace Cert.ReferenceIdeal.Entries

open Idealize.ShloMosaic Idealize.SL.Sem
open Cert.ReferenceIdeal Cert.ReferenceIdeal.Facts₀ Cert.ReferenceIdeal.Facts
open Cert.Layer

variable {F : FTy → Type} [FloatOps F]

/-! ## The result's parts -/

/-- Every token's scores for all experts. -/
def scores (x : FVec F S256x128 .f32) (rw : FVec F S128x8 .f32) : FVec F S256x8 .f32 :=
  Host.dotGeneral dot_S256x128_S128x8_S256x8_1_0_0_1_n_n none x rw

/-- A number per token, repeated for every expert. -/
def spread (v : FVec F S256 .f32) : FVec F S256x8 .f32 :=
  broadcastInDim S256x8 ![0, 1] bcast_S256x1_S256x8_0_1 (broadcastInDim S256x1 ![0] bcast_S256_S256x1_0 v)

/-- The exponentials of the scores less each token's largest. -/
def lifted (x : FVec F S256x128 .f32) (rw : FVec F S128x8 .f32) : FVec F S256x8 .f32 :=
  Host.exp (subf (scores x rw) (spread (Host.reduce FloatOps.maximumf (scores x rw) (constant S_ .f32 0xFF800000#32) reducesTo_S256x8_S256_d1 h_S_)))

/-- Every token's probabilities of all experts. -/
def probs (x : FVec F S256x128 .f32) (rw : FVec F S128x8 .f32) : FVec F S256x8 .f32 :=
  Host.divf (lifted x rw) (spread (Host.reduceAdd (lifted x rw) (constant S_ .f32 0x00000000#32) reducesTo_S256x8_S256_d1 h_S_))

/-- Every token's choice, a negative one moved up by eight. -/
def choice (ids : IVec S256x1 32) : IVec S256x1 32 :=
  broadcastInDim S256x1 ![0] bcast_S256_S256x1_0 (select (cmpi .slt (shapeCast _ ids shapeCasts_S256x1_S256) (broadcastInDim S256 ![] bcast_S_S256 (constantI S_ 32 0#32))) (addi (shapeCast _ ids shapeCasts_S256x1_S256) (broadcastInDim S256 ![] bcast_S_S256 (constantI S_ 32 8#32))) (shapeCast _ ids shapeCasts_S256x1_S256))

/-- Every token's number. -/
def number : IVec S256x1 32 :=
  broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0))

/-- Token number and choice, side by side: where each token's probability is looked up. -/
def place (ids : IVec S256x1 32) : IVec S256x2 32 :=
  concatenate S256x2 1 [⟨S256x1, number⟩, ⟨S256x1, choice ids⟩] concatenates_S256x1_S256x1_S256x2_d1

/-- The whole result. -/
def result (x : FVec F S256x128 .f32) (rw : FVec F S128x8 .f32) (ids : IVec S256x1 32) (W : FVec F S8x128x256 .f32) (sw : FVec F S128x256 .f32) : FVec F S256x256 .f32 :=
  addf (Host.dotGeneral dot_S256x128_S128x256_S256x256_1_0_0_1_n_n none x sw)
    (mulf (broadcastInDim S256x256 ![0, 1] bcast_S256x1_S256x256_0_1 (broadcastInDim S256x1 ![0] bcast_S256_S256x1_0 (Host.gather gather_S256x8_S256x2_S256_n_01_n_n_01_1_11 (probs x rw) (place ids))))
      (Host.dotGeneral dot_S256x128_S256x128x256_S256x256_1_1_n_2_0_0 none x (Host.gather gather_S8x128x256_S256x1_S256x128x256_12_0_n_n_0_1_1128256 W (choice ids))))

/-- Every execution ends with the result array at `result` of the arguments, and the arguments unchanged. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

/-! ## The two look-ups -/

/-- The expert looked up for token `i` is the one its word names. -/
theorem expert_at {α : Type} (W : S8x128x256.Idx → α) (idx : IVec S256x1 32) (i : Fin 256) (k : Fin 128) (o : Fin 256) (e : Fin 8)
    (he : idx (ix2 i (0 : Fin 1)) = BitVec.ofNat 32 e.val) :
    Host.gather gather_S8x128x256_S256x1_S256x128x256_12_0_n_n_0_1_1128256 W idx (ix3 i k o) = W (ix3 e k o) := by
  have hw : (idx (ix2 i (0 : Fin 1))).toInt = (e.val : Int) := by rw [he]; clear he; revert e; decide +kernel
  have hsi : (gather_S8x128x256_S256x1_S256x128x256_12_0_n_n_0_1_1128256).siIdx (ix3 i k o) (0 : Fin 1) = ix2 i (0 : Fin 1) := by
    funext b; fin_cases b <;> rfl
  unfold Host.gather
  refine congrArg W (funext fun a => Fin.ext ?_)
  fin_cases a
  · show min (idx ((gather_S8x128x256_S256x1_S256x128x256_12_0_n_n_0_1_1128256).siIdx (ix3 i k o) (0 : Fin 1))).toInt.toNat 7 + 0 + 0 = e.val
    rw [hsi, hw]; have := e.isLt; omega
  · show 0 + 0 + k.val = k.val; omega
  · show 0 + 0 + o.val = o.val; omega

/-- A token's number, as a word, reads as itself. -/
theorem word_of_token (i : Fin 256) : (BitVec.ofNat 32 i.val).toInt = (i.val : Int) := by revert i; decide +kernel

/-- The probability looked up for token `i` is the one in the row and column its two words name. -/
theorem prob_at {α : Type} (p : S256x8.Idx → α) (idx : IVec S256x2 32) (i : Fin 256) (e : Fin 8)
    (hi : idx (ix2 i (0 : Fin 2)) = BitVec.ofNat 32 i.val) (he : idx (ix2 i (1 : Fin 2)) = BitVec.ofNat 32 e.val) :
    Host.gather gather_S256x8_S256x2_S256_n_01_n_n_01_1_11 p idx (ix1 i) = p (ix2 i e) := by
  have hw : (idx (ix2 i (1 : Fin 2))).toInt = (e.val : Int) := by rw [he]; clear he; revert e; decide +kernel
  have hv : (idx (ix2 i (0 : Fin 2))).toInt = (i.val : Int) := by
    rw [hi]; exact word_of_token i
  have h0 : (gather_S256x8_S256x2_S256_n_01_n_n_01_1_11).siIdx (ix1 i) (0 : Fin 2) = ix2 i (0 : Fin 2) := by
    funext b; fin_cases b <;> rfl
  have h1 : (gather_S256x8_S256x2_S256_n_01_n_n_01_1_11).siIdx (ix1 i) (1 : Fin 2) = ix2 i (1 : Fin 2) := by
    funext b; fin_cases b <;> rfl
  unfold Host.gather
  refine congrArg p (funext fun a => Fin.ext ?_)
  fin_cases a
  · show min (idx ((gather_S256x8_S256x2_S256_n_01_n_n_01_1_11).siIdx (ix1 i) (0 : Fin 2))).toInt.toNat 255 + 0 + 0 = i.val
    rw [h0, hv]; have := i.isLt; omega
  · show min (idx ((gather_S256x8_S256x2_S256_n_01_n_n_01_1_11).siIdx (ix1 i) (1 : Fin 2))).toInt.toNat 7 + 0 + 0 = e.val
    rw [h1, hw]; have := e.isLt; omega

/-! ## The words looked up by -/

/-- A choice that names an expert is left as it is. -/
theorem choice_at (ids : IVec S256x1 32) (i : Fin 256) (e : Fin 8) (he : ids (ix2 i (0 : Fin 1)) = BitVec.ofNat 32 e.val) :
    choice ids (ix2 i (0 : Fin 1)) = BitVec.ofNat 32 e.val := by
  delta choice
  pointwise
  rw [he]; clear he; revert e; decide +kernel

/-- A token's number is its place. -/
theorem number_at (i : Fin 256) : number (ix2 i (0 : Fin 1)) = BitVec.ofNat 32 i.val := by
  delta number
  pointwise
  revert i; decide +kernel

/-- A place to read the probabilities at is a token's number -/
theorem place_at0 (ids : IVec S256x1 32) (i : Fin 256) : place ids (ix2 i (0 : Fin 2)) = BitVec.ofNat 32 i.val := by
  rw [← number_at i]
  delta place
  pointwise

/-- and its choice. -/
theorem place_at1 (ids : IVec S256x1 32) (i : Fin 256) : place ids (ix2 i (1 : Fin 2)) = choice ids (ix2 i (0 : Fin 1)) := by
  delta place
  pointwise

/-! ## The result, entry by entry -/

/-- The reference's probabilities are the layer's. -/
theorem probs_at (x : FVec Ideal S256x128 .f32) (rw : FVec Ideal S128x8 .f32) (i : Fin 256) (e : Fin 8) :
    probs x rw (ix2 i e) = prob x rw i e := by
  unfold prob top score
  delta probs lifted spread scores
  pointwise

/-- Entry `(i, o)` of the reference's result. -/
theorem result_at (x : FVec Ideal S256x128 .f32) (rw : FVec Ideal S128x8 .f32) (ids : IVec S256x1 32) (W : FVec Ideal S8x128x256 .f32)
    (sw : FVec Ideal S128x256 .f32) (e : Fin 256 → Fin 8) (he : Chose ids e) (i o : Fin 256) :
    result x rw ids W sw (ix2 i o) = sharedAt x sw i o + routedAt x rw W i (e i) o := by
  have hc := choice_at ids i (e i) (he i)
  have hp := prob_at (probs x rw) (place ids) i (e i) (place_at0 ids i) ((place_at1 ids i).trans hc)
  have hW := fun k => expert_at W (choice ids) i k o (e i) hc
  unfold sharedAt routedAt
  rw [← probs_at, ← hp]
  simp only [← hW]
  delta result
  pointwise

end Cert.ReferenceIdeal.Entries

end
-- ==== Proof.Value.Precondition.lean ====
/- The precondition read at an entry: every token's word names one of the eight experts. -/
module

public import proofs.«01_k».proof.Pre_experts_in_range_KernelIdeal
public import proofs.«01_k».proof.Pre_experts_in_range_ReferenceIdeal
public import proofs.«01_k».proof.Proof.Value.Layer
public import Idealize.ShloMosaic.Lib.ReduceAll
public import Idealize.ShloMosaic.Lib.Affine

@[expose] public section

noncomputable section

namespace Cert.InRange

open Idealize.ShloMosaic Cert.Layer

/-- The shape facts the precondition states, over the kernel's arguments, -/
theorem factsKernel : Cert.Pre_experts_in_range_KernelIdeal.Facts := ⟨by decide, by decide, by decide⟩
/-- and over the reference's. -/
theorem factsReference : Cert.Pre_experts_in_range_ReferenceIdeal.Facts := ⟨by decide, by decide, by decide⟩

/-- A word between zero and seven is the word of an expert. -/
theorem named (w : BitVec 32) (h0 : 0 ≤ w.toInt) (h8 : w.toInt < 8) : ∃ f : Fin 8, w = BitVec.ofNat 32 f.val := by
  obtain ⟨n, hn⟩ : ∃ n : Nat, w.toInt = (n : Int) := ⟨w.toInt.toNat, (Int.toNat_of_nonneg h0).symm⟩
  have key : ∀ f : Fin 8, (BitVec.ofNat 32 f.val).toInt = (f.val : Int) := by decide +kernel
  have h : n < 8 := by omega
  exact ⟨⟨n, h⟩, BitVec.eq_of_toInt_eq (hn.trans (key ⟨n, h⟩).symm)⟩

/-- Under the precondition the choices name experts. -/
theorem chose [Cert.Pre_experts_in_range_KernelIdeal.Facts] (x : Tokens) (rw : Router) (ids : Choices)
    (W : FVec Ideal ⟨3, ![2, 128, 256]⟩ .f32) (sw : Shared)
    (h : Cert.Pre_experts_in_range_KernelIdeal.fn (F := Ideal) x rw ids W sw = fun _ => 1#1) : ∃ e : Fin 256 → Fin 8, Chose ids e := by
  have key : ∀ i : Fin 256, ∃ f : Fin 8, ids (ix2 i (0 : Fin 1)) = BitVec.ofNat 32 f.val := fun i => by
    have hs : Subsingleton (Cert.Pre_experts_in_range_KernelIdeal.S_).Idx := ⟨fun a b => funext fun k => k.elim0⟩
    have hall := Host.reduce_andi_all _ _ _ _ _ (congrFun h (fun k => k.elim0)) (ix2 i (0 : Fin 1))
    have hb := IntOp.andi_eq_one.1 hall
    exact named _ (IntOp.cmpi_sge.1 hb.1) (IntOp.cmpi_slt.1 hb.2)
  exact ⟨fun i => (key i).choose, fun i => (key i).choose_spec⟩

end Cert.InRange

end
-- ==== Proof.lean ====
module

public import proofs.«01_k».proof.Defs
public import proofs.«01_k».proof.Proof.Kernel.Outcome
public import proofs.«01_k».proof.Proof.KernelIdeal.Outcome
public import proofs.«01_k».proof.Proof.Value.Kernel
public import proofs.«01_k».proof.Proof.Value.Reference
public import proofs.«01_k».proof.Proof.Value.Precondition
public import Idealize.ShloMosaic.Lib.Quiescent

@[expose] public section

noncomputable section

namespace Cert.Proof

open Idealize.ShloMosaic Idealize.SL.Sem Cert.Layer

/-! ## The frames -/

/-- The kernel as printed. -/
theorem frame_kernel : Cert.quiescent_Kernel := fun m ρ _ =>
  (θ_run Cert.Kernel.defs _ _).mono (fun _ h => ⟨fun c => (h.1 c).2, h.2⟩) (Cert.Kernel.Exchange.run_out (F := Bits) m ρ)

/-- The kernel on extended reals, -/
theorem frame_ideal : Cert.quiescent_KernelIdeal := fun m ρ _ =>
  (θ_run Cert.KernelIdeal.defs _ _).mono (fun _ h => ⟨fun c => (h.1 c).2, h.2⟩) (Cert.KernelIdeal.Exchange.run_out (F := Ideal) m ρ)

/-- and the same where the precondition is assumed too. -/
theorem frame_ideal_in_range [facts : Cert.Pre_experts_in_range_KernelIdeal.Facts] :
    Cert.quiescent_KernelIdeal_pre_experts_in_range_KernelIdeal := fun m ρ _ => frame_ideal m ρ trivial

/-- The reference on extended reals; it declares no semaphore, so there is no counter to differ from zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Entries.run_result (F := Ideal) m ρ)

/-- The same where the precondition is assumed too. -/
theorem frame_reference_in_range [facts : Cert.Pre_experts_in_range_ReferenceIdeal.Facts] :
    Cert.quiescent_ReferenceIdeal_pre_experts_in_range_ReferenceIdeal := fun m ρ _ => frame_reference m ρ trivial

/-! ## The value -/

/-- Device `c`'s rows of the reference's result are what the exchange leaves on it. -/
theorem out_eq_block (m : (ℓ : Loc Cert.KernelIdeal.nD Cert.KernelIdeal.τ Cert.KernelIdeal.sig) → Buf (Elt Ideal) ℓ)
    (ρ : Dev Cert.KernelIdeal.nD → PrngReg) {x : Tokens} {rw : Router} {ids : Choices} {W : Experts} {sw : Shared} {e : Fin 256 → Fin 8}
    (h : Cert.KernelIdeal.Entries.Launched m ρ x rw ids W sw) (he : Chose ids e) (c : Dev Cert.KernelIdeal.nD) :
    Cert.KernelIdeal.Exchange.outAt m ρ c
      = Layout.block ⟨2, ![64, 256]⟩ ⟨2, ![256, 256]⟩ 0 4 c (Cert.ReferenceIdeal.Entries.result (F := Ideal) x rw ids W sw) := by
  funext j
  obtain ⟨r, o, rfl⟩ : ∃ (r : Fin 64) (o : Fin 256), j = ix2 r o := ⟨j 0, j 1, eq_ix2 j⟩
  refine (Cert.KernelIdeal.Entries.outAt_at h he c r o).trans ?_
  rw [← Cert.ReferenceIdeal.Entries.result_at x rw ids W sw e he]
  refine congrArg (Cert.ReferenceIdeal.Entries.result (F := Ideal) x rw ids W sw) (funext fun a => Fin.ext ?_)
  rw [Layout.Tiles.idx_val]
  fin_cases a <;> rfl

/-- On extended reals the kernel's four results are the reference's result, 64 rows each. -/
theorem value [facts : Cert.Pre_experts_in_range_KernelIdeal.Facts] :
    Cert.algebraic_KernelIdeal_ReferenceIdeal_pre_experts_in_range_KernelIdeal := by
  intro m ρ m' ρ' hpre hargs
  obtain ⟨e, he⟩ := Cert.InRange.chose _ _ _ _ _ (hpre 0)
  rw [(hargs 0).2.2.1] at he
  have hl : Cert.KernelIdeal.Entries.Launched m ρ _ _ _ _ _ :=
    { tokens := fun c => (Cert.KernelIdeal.Exchange.xs_eq m ρ c).trans (hargs c).1
      router := fun c => (Cert.KernelIdeal.Exchange.rws_eq m ρ c).trans (hargs c).2.1
      choices := fun c => (Cert.KernelIdeal.Exchange.ids_eq m ρ c).trans (hargs c).2.2.1
      experts := fun c => (Cert.KernelIdeal.Exchange.ews_eq m ρ c).trans (hargs c).2.2.2.1
      shared := fun c => (Cert.KernelIdeal.Exchange.sws_eq m ρ c).trans (hargs c).2.2.2.2 }
  exact ⟨_, (θ_run Cert.KernelIdeal.defs _ _).mono (fun _ h c => ⟨(h.1 c).1.trans (out_eq_block m ρ hl he c), (h.1 c).2⟩)
      (Cert.KernelIdeal.Exchange.run_out (F := Ideal) m ρ),
    (θ_run Cert.ReferenceIdeal.defs _ _).mono (fun _ h => h 0) (Cert.ReferenceIdeal.Entries.run_result (F := Ideal) m' ρ')⟩

/-- Everything claimed. -/
theorem claim : Cert.Claim :=
  ⟨Cert.Kernel.Gen.facts, Cert.KernelIdeal.Gen.facts, Cert.ReferenceIdeal.Gen.facts, Cert.InRange.factsKernel, Cert.InRange.factsReference,
    frame_kernel, frame_ideal, frame_ideal_in_range (facts := Cert.InRange.factsKernel), frame_reference,
    frame_reference_in_range (facts := Cert.InRange.factsReference), trivial,
    value (facts := Cert.InRange.factsKernel)⟩

end Cert.Proof

end
